-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![16384, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 1024]⟩ ⟨2, ![16384, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S4096x128 : Shape := ⟨2, ![4096, 128]⟩
abbrev S3x4096x128 : Shape := ⟨3, ![3, 4096, 128]⟩
abbrev S3 : Shape := ⟨1, ![3]⟩
abbrev S_ : Shape := ⟨0, ![]⟩
abbrev S4096x1 : Shape := ⟨2, ![4096, 1]⟩
abbrev S256x2x8x128 : Shape := ⟨4, ![256, 2, 8, 128]⟩
abbrev S256x1x8x128 : Shape := ⟨4, ![256, 1, 8, 128]⟩
abbrev S256x8x128 : Shape := ⟨3, ![256, 8, 128]⟩
abbrev S256x1x1 : Shape := ⟨3, ![256, 1, 1]⟩
abbrev S128x2x16x128 : Shape := ⟨4, ![128, 2, 16, 128]⟩
abbrev S128x1x16x128 : Shape := ⟨4, ![128, 1, 16, 128]⟩
abbrev S128x16x128 : Shape := ⟨3, ![128, 16, 128]⟩
abbrev S128x1x1 : Shape := ⟨3, ![128, 1, 1]⟩
abbrev S64x2x32x128 : Shape := ⟨4, ![64, 2, 32, 128]⟩
abbrev S64x1x32x128 : Shape := ⟨4, ![64, 1, 32, 128]⟩
abbrev S64x32x128 : Shape := ⟨3, ![64, 32, 128]⟩
abbrev S64x1x1 : Shape := ⟨3, ![64, 1, 1]⟩
abbrev S32x2x64x128 : Shape := ⟨4, ![32, 2, 64, 128]⟩
abbrev S32x1x64x128 : Shape := ⟨4, ![32, 1, 64, 128]⟩
abbrev S32x64x128 : Shape := ⟨3, ![32, 64, 128]⟩
abbrev S32x1x1 : Shape := ⟨3, ![32, 1, 1]⟩
abbrev S16x2x128x128 : Shape := ⟨4, ![16, 2, 128, 128]⟩
abbrev S16x1x128x128 : Shape := ⟨4, ![16, 1, 128, 128]⟩
abbrev S16x128x128 : Shape := ⟨3, ![16, 128, 128]⟩
abbrev S16x1x1 : Shape := ⟨3, ![16, 1, 1]⟩
abbrev S8x2x256x128 : Shape := ⟨4, ![8, 2, 256, 128]⟩
abbrev S8x1x256x128 : Shape := ⟨4, ![8, 1, 256, 128]⟩
abbrev S8x256x128 : Shape := ⟨3, ![8, 256, 128]⟩
abbrev S8x1x1 : Shape := ⟨3, ![8, 1, 1]⟩
abbrev S4x2x512x128 : Shape := ⟨4, ![4, 2, 512, 128]⟩
abbrev S4x1x512x128 : Shape := ⟨4, ![4, 1, 512, 128]⟩
abbrev S4x512x128 : Shape := ⟨3, ![4, 512, 128]⟩
abbrev S4x1x1 : Shape := ⟨3, ![4, 1, 1]⟩
abbrev S2x2x1024x128 : Shape := ⟨4, ![2, 2, 1024, 128]⟩
abbrev S2x1x1024x128 : Shape := ⟨4, ![2, 1, 1024, 128]⟩
abbrev S2x1024x128 : Shape := ⟨3, ![2, 1024, 128]⟩
abbrev S2x1x1 : Shape := ⟨3, ![2, 1, 1]⟩
abbrev S1x2x2048x128 : Shape := ⟨4, ![1, 2, 2048, 128]⟩
abbrev S1x1x2048x128 : Shape := ⟨4, ![1, 1, 2048, 128]⟩
abbrev S1x2048x128 : Shape := ⟨3, ![1, 2048, 128]⟩
abbrev S1 : Shape := ⟨1, ![1]⟩
abbrev S1x4096x128 : Shape := ⟨3, ![1, 4096, 128]⟩

abbrev nBuf : Space → Nat
  | .hbm => 2
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S3x4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev barrier0 : Sem sig := 0

abbrev nD : Nat := 4
abbrev τ : Topo := Topo.v7x

variable {F : FTy → Type} [FloatOps F]

abbrev grid0 : Pipeline.Grid := ⟨1, ![8], ![false]⟩

def k0_dev1 (d0 : Dev nD) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.xori v2 c1_i32_0
  v4.toNat
def k0_dev2 (d0 : Dev nD) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v5 : BitVec 32 := Scalar.xori v2 c2_i32
  v5.toNat
def k0_dev3 (d0 : Dev nD) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_352 : BitVec 32 := 1#32
  let v1884 : BitVec 32 := Scalar.xori v2 c1_i32_352
  v1884.toNat
def k0_dev4 (d0 : Dev nD) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_414 : BitVec 32 := 2#32
  let v2143 : BitVec 32 := Scalar.xori v2 c2_i32_414
  v2143.toNat
def k0_dev5 (d0 : Dev nD) : Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_437 : BitVec 32 := 1#32
  let v2168 : BitVec 32 := Scalar.xori v2 c1_i32_437
  v2168.toNat
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S16384x1024 : Shape := ⟨2, ![16384, 1024]⟩

abbrev nBuf : Space → Nat
  | .hbm => 2
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Stages.lean ====
module

public import Idealize.ShloMosaic.PureOps
public import Mathlib.Tactic.Ring

/-!
# The compare-exchange stages of the column sort

A stage of the network compares row `i` of a device's 4096 × 128 block with the row at distance
`2 ^ j` and keeps the smaller or the larger of the two. The kernel writes a stage in two ways: at
distances 1, 2 and 4 by two rotations and selects, at the larger distances by splitting the rows
into halves and gluing them again. Both are stated here once, over the distance and over the rule
that says in which direction a pair of rows is ordered, at any float instance.
-/

@[expose] public section

noncomputable section

namespace Cert.Stages

open Idealize.ShloMosaic

variable {F : FTy → Type} [FloatOps F]

abbrev SX : Shape := ⟨2, ![4096, 128]⟩
abbrev SC : Shape := ⟨2, ![4096, 1]⟩
abbrev SP : Shape := ⟨3, ![1, 4096, 128]⟩
abbrev B4 (m k : ℕ) : Shape := ⟨4, ![m, 2, k, 128]⟩
abbrev B41 (m k : ℕ) : Shape := ⟨4, ![m, 1, k, 128]⟩
abbrev B3 (m k : ℕ) : Shape := ⟨3, ![m, k, 128]⟩
abbrev B1 (m : ℕ) : Shape := ⟨3, ![m, 1, 1]⟩

/-- A device's block of 4096 rows and 128 columns. -/
abbrev X (F : FTy → Type) : Type := FVec F SX .f32

/-! ## The shape relations -/

theorem rows_pow {j : ℕ} (hj : j < 12) : 2 ^ (11 - j) * 2 * 2 ^ j = 4096 := by
  have h : 2 ^ (11 - j) * 2 ^ j = 2048 := by rw [← Nat.pow_add, Nat.sub_add_cancel (by omega)]
  calc 2 ^ (11 - j) * 2 * 2 ^ j = 2 * (2 ^ (11 - j) * 2 ^ j) := by ring
    _ = 4096 := by rw [h]

theorem casts_split {m k : ℕ} (h : m * 2 * k = 4096) : SX.ShapeCasts (B4 m k) := by
  simp [Shape.ShapeCasts, Shape.numel, Fin.prod_univ_succ]
  calc m * (2 * (k * 128)) = m * 2 * k * 128 := by ring
    _ = 524288 := by rw [h]
theorem casts_glue {m k : ℕ} (h : m * 2 * k = 4096) : (B4 m k).ShapeCasts SX := (casts_split h).symm
theorem casts_drop (m k : ℕ) : (B41 m k).ShapeCasts (B3 m k) := by
  simp [Shape.ShapeCasts, Shape.numel, Fin.prod_univ_succ]
theorem casts_add (m k : ℕ) : (B3 m k).ShapeCasts (B41 m k) := (casts_drop m k).symm
theorem slices_lo (m k : ℕ) : (B4 m k).Slices ![0, 0, 0, 0] (B41 m k) :=
  ⟨rfl, fun a => by fin_cases a <;> simp⟩
theorem slices_hi (m k : ℕ) : (B4 m k).Slices ![0, 1, 0, 0] (B41 m k) :=
  ⟨rfl, fun a => by fin_cases a <;> simp⟩
theorem iotas_rows : SC.Iotas .tc 32 [0] := by decide
theorem iotas_blocks (m : ℕ) : (B1 m).Iotas .tc 32 [0] := ⟨by simp, fun _ => ⟨.inr rfl, (by decide : 2 ≤ 3)⟩, fun h => absurd rfl h⟩
theorem rotates_rows : SX.Rotates 0 none := by decide
theorem broadcasts_rows : SC.Broadcasts SX := by decide
theorem broadcasts_self : SC.Broadcasts SC := by decide
theorem broadcasts_blocks (m k : ℕ) : (B1 m).Broadcasts (B3 m k) :=
  ⟨Nat.le_refl 3, fun a => by fin_cases a <;> simp⟩
theorem concatenates_halves (m k : ℕ) : Shape.Concatenates [B41 m k, B41 m k] (B4 m k) 1 := by
  refine ⟨by simp, fun s hs => ?_, by simp⟩
  have : s = B41 m k := by simpa using hs
  subst this
  exact ⟨rfl, fun b hb => by fin_cases b <;> simp_all⟩

/-! ## The direction of a stage -/

/-- In which direction a stage orders a pair of rows: upwards where bit `p` of the row is clear, upwards in every
    row when a scalar bit is set (and downwards otherwise), or upwards everywhere. -/
inductive Dir
  | bit (p : ℕ)
  | scalar (b : BitVec 1)
  | up

/-- Where bit `k` (a power of two) of the row is clear. -/
def clear (k : ℕ) : IVec SC 1 :=
  cmpi .eq (andi (iota .tc SC 32 [0] iotas_rows) (broadcast SC (BitVec.ofNat 32 k))) (broadcast SC 0#32)

/-- The rows in which a stage at distance `k` keeps the smaller element. -/
def keepMin (k : ℕ) : Dir → IVec SC 1
  | .bit p => xori (xori (clear k) (clear (2 ^ p))) (constantI SC 1 1#1)
  | .scalar b => xori (xori (clear k) (broadcastTo SC (broadcast SC b) broadcasts_self)) (constantI SC 1 1#1)
  | .up => clear k

/-- A column of bits spread over the 128 columns. -/
def spread (v : IVec SC 1) : IVec SX 1 := broadcastTo SX (shapeCast SC v rfl) broadcasts_rows

/-- A stage at distance `k`, by rotations: the partner row comes from below or from above. -/
def small (k : ℕ) (d : Dir) (x : X F) : X F :=
  have p : X F := select (spread (clear k)) (dynamicRotate 0 (BitVec.ofNat 32 (4096 - k)) none x rotates_rows)
    (dynamicRotate 0 (BitVec.ofNat 32 k) none x rotates_rows)
  select (spread (keepMin k d)) (minimumf x p) (maximumf x p)

/-- The first halves of the row groups. -/
def loHalf {m k : ℕ} (y : FVec F (B4 m k) .f32) : FVec F (B3 m k) .f32 :=
  shapeCast (B3 m k) (extractStridedSlice (B41 m k) ![0, 0, 0, 0] y (slices_lo m k)) (casts_drop m k)
/-- The second halves of the row groups. -/
def hiHalf {m k : ℕ} (y : FVec F (B4 m k) .f32) : FVec F (B3 m k) .f32 :=
  shapeCast (B3 m k) (extractStridedSlice (B41 m k) ![0, 1, 0, 0] y (slices_hi m k)) (casts_drop m k)

/-- The row groups from their halves, as a block again. -/
def glue {m k : ℕ} (h : m * 2 * k = 4096) (a b : FVec F (B3 m k) .f32) : X F :=
  shapeCast SX (concatenate (B4 m k) 1 [⟨B41 m k, shapeCast (B41 m k) a (casts_add m k)⟩, ⟨B41 m k, shapeCast (B41 m k) b (casts_add m k)⟩]
    (concatenates_halves m k)) (casts_glue h)

/-- Where bit `s` of a row group's first row is clear. -/
def groupClear (m k s : ℕ) : IVec (B1 m) 1 :=
  cmpi .eq (andi (muli (iota .tc (B1 m) 32 [0] (iotas_blocks m)) (broadcast (B1 m) (BitVec.ofNat 32 (2 * k)))) (broadcast (B1 m) (BitVec.ofNat 32 s)))
    (broadcast (B1 m) 0#32)

/-- A column of bits, one a row group, spread over the group. -/
def spreadGroup {m : ℕ} (k : ℕ) (v : IVec (B1 m) 1) : IVec (B3 m k) 1 :=
  broadcastTo (B3 m k) (shapeCast (B1 m) v rfl) (broadcasts_blocks m k)

/-- A stage at distance `k`, by halves of row groups. -/
def big {m k : ℕ} (h : m * 2 * k = 4096) (d : Dir) (x : X F) : X F :=
  have y : FVec F (B4 m k) .f32 := shapeCast (B4 m k) x (casts_split h)
  have lo : FVec F (B3 m k) .f32 := minimumf (loHalf y) (hiHalf y)
  have hi : FVec F (B3 m k) .f32 := maximumf (loHalf y) (hiHalf y)
  match d with
  | .bit p => glue h (select (spreadGroup k (groupClear m k (2 ^ p))) lo hi) (select (spreadGroup k (groupClear m k (2 ^ p))) hi lo)
  | .scalar b => glue h (Scalar.select b lo hi) (Scalar.select b hi lo)
  | .up => glue h lo hi

/-- The stage at distance `2 ^ j`. -/
def stage (d : Dir) (j : ℕ) (hj : j < 12) (x : X F) : X F :=
  if j < 3 then small (2 ^ j) d x else big (rows_pow hj) d x

/-- The stages at distances `2 ^ (n - 1)`, …, 2, 1, in this order. -/
def mergeDown (d : Dir) : (n : ℕ) → n ≤ 12 → X F → X F
  | 0, _, x => x
  | n + 1, h, x => mergeDown d n (Nat.le_of_succ_le h) (stage d n h x)

/-! ## The kernel's local steps -/

/-- The bit saying that bit `b` of the device's number is clear. -/
def devClear (w : BitVec 32) (b : BitVec 32) : BitVec 1 := Scalar.cmpi .eq (Scalar.andi w b) 0#32

/-- The direction of the local sort's phase `p`: bit `p` of the row, and in the last phase the device's lowest bit. -/
def phaseDir (w : BitVec 32) (p : ℕ) : Dir := if p < 12 then .bit p else .scalar (devClear w 1#32)

/-- The first `p` phases of the local sort. -/
def sortUpTo (w : BitVec 32) : (p : ℕ) → p ≤ 12 → X F → X F
  | 0, _, x => x
  | p + 1, h, x => mergeDown (phaseDir w (p + 1)) (p + 1) h (sortUpTo w p (Nat.le_of_succ_le h) x)

/-- The local sort of a device's block. -/
def sortLocal (w : BitVec 32) (x : X F) : X F := sortUpTo w 12 (Nat.le_refl _) x

/-- What an exchange keeps of the own block `x` and the partner's `p`: the smaller or the larger elements. -/
def keep (b : BitVec 1) (x p : X F) : X F := Scalar.select b (minimumf x p) (maximumf x p)

/-- The first exchange's bit: the two low bits of the device's number agree. -/
def keepFirst (w : BitVec 32) : BitVec 1 := Scalar.xori (Scalar.xori (devClear w 1#32) (devClear w 2#32)) 1#1

/-- The local merge after the first exchange. -/
def mergeMid (w : BitVec 32) (x : X F) : X F := mergeDown (.scalar (devClear w 2#32)) 12 (Nat.le_refl _) x

/-- The local merge after the last exchange. -/
def mergeLast (x : X F) : X F := mergeDown .up 12 (Nat.le_refl _) x

/-- A loaded part of the receive buffer as a block. -/
def ofPart (p : FVec F SP .f32) : X F := shapeCast SX p rfl

end Cert.Stages

end
-- ==== Proof.KernelIdeal.Net.lean ====
module

public import proofs.«01_k».proof.Proof.Gen.KernelIdeal.Skeleton
public import proofs.«01_k».proof.Proof.Stages

@[expose] public section

noncomputable section

namespace Cert.KernelIdeal.Gen

open Idealize.ShloMosaic Idealize.SL.Sem Cert.Stages

variable {F : FTy → Type} [FloatOps F]

theorem inb_part (e : Fin 3) : ∀ a, (![e.val, 0, 0] : Fin 3 → ℕ) a + S1x4096x128.size a ≤ S3x4096x128.size a := by
  revert e; decide
theorem inb_sem (e : Fin 3) : ∀ a, (![e.val] : Fin 1 → ℕ) a + S1.size a ≤ S3.size a := by
  revert e; decide

/-- Part `e` of the receive buffer, as a 4096 × 128 block. -/
abbrev part (arg4 : Memref sig .tc .vmem S3x4096x128 .f32) (e : Fin 3) : Memref sig .tc .vmem S4096x128 .f32 :=
  (arg4.slice (Rect.unit (s := S3x4096x128) ![e.val, 0, 0] S1x4096x128.size (inb_part e)) (fun _ => rfl)).squeeze S4096x128 squeezes_S1x4096x128_S4096x128
/-- Semaphore `e` of an array of three. -/
abbrev semOf (a : DmaSems sig S3) (e : Fin 3) : DmaSems sig S_ :=
  (a.slice (Rect.unit (s := S3) ![e.val] S1.size (inb_sem e))).squeeze S_ squeezes_S1_S_

/-- The whole 4096 × 128 block, as a rectangle. -/
abbrev rX : Rect S4096x128 := Rect.unit (s := S4096x128) ![0, 0] S4096x128.size inb_S4096x128_S4096x128_0_0
/-- Part `e` of the receive buffer, as a rectangle. -/
abbrev rPart (e : Fin 3) : Rect S3x4096x128 := Rect.unit (s := S3x4096x128) ![e.val, 0, 0] S1x4096x128.size (inb_part e)

/-- Exchange `e` with device `n`: the block is stored in the send buffer, copied to part `e` of `n`'s receive buffer, the
    copies in both directions are waited for, and of the own block and the landed one the smaller or the larger elements are kept. -/
def exch (arg3 : Memref sig .tc .vmem S4096x128 .f32) (harg3 : arg3.IsWhole) (arg4 : Memref sig .tc .vmem S3x4096x128 .f32) (arg5 arg6 : DmaSems sig S3)
    (e : Fin 3) (n : Dev nD) (b : BitVec 1) (x : X F) : Prog (TpuEff nD τ sig (Elt F) Λ₀ .tc) (X F) := do
  let _ : Vec F S4096x128 .f32 ← Prog.lift (.load arg3 rX.toLoadRect (View.loadsAt_vmem h_S4096x128))
  Prog.lift (.store arg3 rX (shapeCast S4096x128 x rfl) Finset.univ (View.stores_vmem_bits_univ h_S4096x128 rfl) (.inl rfl))
  Prog.lift (.enqueueDma arg3 (.remote (Dev.tc n) (part arg4 e) (.dma (semOf arg5 e).sem)) (.dma (semOf arg6 e).sem) harg3.wordExact
    ((View.wordExact_bits rfl).reshape _ _) ⟨⟨rfl, Or.inl rfl⟩, trivial⟩)
  Prog.lift (.waitDma2 (semOf arg5 e).sem (part arg4 e) arg3 ((View.wordExact_bits rfl).reshape _ _) harg3.wordExact)
  Prog.lift (.waitDma2 (semOf arg6 e).sem arg3 (part arg4 e) harg3.wordExact ((View.wordExact_bits rfl).reshape _ _))
  let p : Vec F S1x4096x128 .f32 ← Prog.lift (.load arg4 (rPart e).toLoadRect (View.loadsAt_vmem h_S1x4096x128))
  pure (keep b x (ofPart p))

/-- The device's number as the kernel computes it. -/
abbrev devWord (d : Dev nD) : BitVec 32 := Scalar.remsi (Scalar.divsi (Dev.word d) 1#32) 4#32

/-- The kernel's body over the stages of the network. -/
def netBody (arg1 arg2 arg3 : Memref sig .tc .vmem S4096x128 .f32) (harg3 : arg3.IsWhole) (arg4 : Memref sig .tc .vmem S3x4096x128 .f32) (arg5 arg6 : DmaSems sig S3) :
    Prog (TpuEff nD τ sig (Elt F) Λ₀ .tc) PUnit := do
  let d : Dev nD ← Prog.lift .deviceId
  semSignalWord (⟨k0_dev1 d, k0_dev1_lt d⟩ : Dev nD) (SemArray.scalar (sig.barrier 0 rfl) : Sems sig S_).sem 1#32
  semSignalWord (⟨k0_dev2 d, k0_dev2_lt d⟩ : Dev nD) (SemArray.scalar (sig.barrier 0 rfl) : Sems sig S_).sem 1#32
  semWaitWord (SemArray.scalar (sig.barrier 0 rfl) : Sems sig S_).sem 2#32
  let x : Vec F S4096x128 .f32 ← Prog.lift (.load arg1 rX.toLoadRect (View.loadsAt_vmem h_S4096x128))
  let a : X F ← exch arg3 harg3 arg4 arg5 arg6 0 ⟨k0_dev3 d, k0_dev3_lt d⟩ (keepFirst (devWord d)) (sortLocal (devWord d) (shapeCast S4096x128 x rfl))
  let b : X F ← exch arg3 harg3 arg4 arg5 arg6 1 ⟨k0_dev4 d, k0_dev4_lt d⟩ (devClear (devWord d) 2#32) (mergeMid (devWord d) a)
  let c : X F ← exch arg3 harg3 arg4 arg5 arg6 2 ⟨k0_dev5 d, k0_dev5_lt d⟩ (devClear (devWord d) 1#32) b
  let _ : Vec F S4096x128 .f32 ← Prog.lift (.load arg2 rX.toLoadRect (View.loadsAt_vmem h_S4096x128))
  Prog.lift (.store arg2 rX (mergeLast c) Finset.univ (View.stores_vmem_bits_univ h_S4096x128 rfl) (.inl rfl))
  pure ⟨⟩

attribute [local irreducible] minimumf maximumf select dynamicRotate shapeCast concatenate extractStridedSlice broadcast andi xori cmpi broadcastTo iota muli
  constantI Scalar.select Scalar.cmpi Scalar.andi Scalar.xori Scalar.divsi Scalar.remsi

set_option maxRecDepth 65536 in
set_option maxHeartbeats 0 in
/-- The printed body is `netBody`. -/
theorem cc0_body_eq_net (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S3x4096x128 .f32) (harg4 : arg4.IsWhole) (arg5 arg6 : DmaSems sig S3) :
    cc0_body (F := F) i arg1 harg1 arg2 harg2 arg3 harg3 arg4 harg4 arg5 arg6 = netBody arg1 arg2 arg3 harg3 arg4 arg5 arg6 := (rfl)

end Cert.KernelIdeal.Gen

end
-- ==== Proof.KernelIdeal.Protocol.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.KernelIdeal.Net
public import Idealize.ShloMosaic.Lib.Pipeline.Launch
public import Idealize.ShloMosaic.Lib.Pipeline.Kit
public import Idealize.ShloMosaic.Lib.Tactic

/-! # The exchanges as a protocol: eight rounds, one per grid point

In every round each device signals its two partners (the device whose number differs in bit 0, and the one whose number
differs in bit 1), waits for both their signals, and then exchanges its block three times: with the first, the second and
the first again, through part 0, 1 and 2 of the receive buffers. -/

@[expose] public section

noncomputable section

namespace Cert.KernelIdeal.Proto

open Cert.KernelIdeal Cert.KernelIdeal.Gen Cert.Stages

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state: the pipeline's rounds and, beside them, the exchanges' (duties `Bool`). -/
abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

variable (m : (ℓ : Loc nD τ sig) → Buf (Elt F) ℓ) (ρ : Dev nD → PrngReg)

/-- The memory at launch: arbitrary contents, every counter zero. -/
def s₀ : MemSt nD τ sig (Elt F) := ⟨m, fun _ => 0, ρ⟩

/-! ## The partners -/

set_option backward.proofsInPublic true in
/-- The partner across bit 0 of the device's number, -/
def p1 (c : Dev nD) : Dev nD := ⟨c.val ^^^ 1, by revert c; decide⟩
set_option backward.proofsInPublic true in
/-- and across bit 1. -/
def p2 (c : Dev nD) : Dev nD := ⟨c.val ^^^ 2, by revert c; decide⟩
/-- The partner of exchange `e`. -/
def pr (e : Fin 3) : Dev nD → Dev nD := if e = 1 then p2 else p1

theorem p1_p1 (c : Dev nD) : p1 (p1 c) = c := by revert c; decide
theorem p2_p2 (c : Dev nD) : p2 (p2 c) = c := by revert c; decide
theorem pr_pr (e : Fin 3) (c : Dev nD) : pr e (pr e c) = c := by revert e c; decide

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel
theorem dev3_eq (c : Dev nD) : (⟨k0_dev3 c, k0_dev3_lt c⟩ : Dev nD) = p1 c := by revert c; decide +kernel
theorem dev4_eq (c : Dev nD) : (⟨k0_dev4 c, k0_dev4_lt c⟩ : Dev nD) = p2 c := by revert c; decide +kernel
theorem dev5_eq (c : Dev nD) : (⟨k0_dev5 c, k0_dev5_lt c⟩ : Dev nD) = p1 c := by revert c; decide +kernel

def e1 : Dev nD ≃ Dev nD := ⟨p1, p1, p1_p1, p1_p1⟩
def e2 : Dev nD ≃ Dev nD := ⟨p2, p2, p2_p2, p2_p2⟩
def eqv (e : Fin 3) : Dev nD ≃ Dev nD := ⟨pr e, pr e, pr_pr e, pr_pr e⟩

/-! ## The cells -/

/-- The send buffer and the receive buffer of three parts. -/
abbrev sM : Memref sig .tc .vmem S4096x128 .f32 := Memref.whole cc0_scratch0
abbrev rM : Memref sig .tc .vmem S3x4096x128 .f32 := Memref.whole cc0_scratch1

/-- Which of a device's seven semaphores: none the barrier, `(false, e)` exchange `e`'s send, `(true, e)` its receive. -/
abbrev Kd : Type := Option (Bool × Fin 3)

abbrev barS : Sem sig := (SemArray.scalar (sig.barrier 0 rfl) : Sems sig S_).sem
abbrev sndS (e : Fin 3) : DmaSem sig := (semOf cc0_scratch2 e).sem
abbrev rcvS (e : Fin 3) : DmaSem sig := (semOf cc0_scratch3 e).sem

/-- The kernel's own semaphores, and all of the protocol's. -/
def osem : Bool × Fin 3 → SemLoc sig := fun x => if x.1 then .dma (rcvS x.2) else .dma (sndS x.2)
def csem : Kd → SemLoc sig := fun | none => .reg barS | some x => osem x
abbrev kcell (ck : Dev nD × Kd) : GSem nD τ sig := ((ck.1 : Thread nD τ), csem ck.2)

abbrev barCell (c : Dev nD) : GSem nD τ sig := ((c : Thread nD τ), .reg barS)
abbrev sndCell (e : Fin 3) (c : Dev nD) : GSem nD τ sig := ((c : Thread nD τ), .dma (sndS e))
abbrev rcvCell (e : Fin 3) (c : Dev nD) : GSem nD τ sig := ((c : Thread nD τ), .dma (rcvS e))

theorem kcell_bar (c : Dev nD) : kcell (c, none) = barCell c := rfl
theorem kcell_snd (e : Fin 3) (c : Dev nD) : kcell (c, some (false, e)) = sndCell e c := rfl
theorem kcell_rcv (e : Fin 3) (c : Dev nD) : kcell (c, some (true, e)) = rcvCell e c := rfl

/-- Which of the seven a semaphore is, if any. -/
def kind (sm : SemLoc sig) : Option Kd :=
  if sm = csem none then some none else if sm = csem (some (false, 0)) then some (some (false, 0)) else if sm = csem (some (false, 1)) then some (some (false, 1))
  else if sm = csem (some (false, 2)) then some (some (false, 2)) else if sm = csem (some (true, 0)) then some (some (true, 0))
  else if sm = csem (some (true, 1)) then some (some (true, 1)) else if sm = csem (some (true, 2)) then some (some (true, 2)) else none

theorem kind_csem (k : Kd) : kind (csem k) = some k := by revert k; decide
theorem csem_injective : Function.Injective csem := fun a b h => Option.some.inj (by rw [← kind_csem a, ← kind_csem b, h])
theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

theorem kind_bar : kind (.reg barS) = some none := kind_csem none
theorem kind_snd (e : Fin 3) : kind (.dma (sndS e)) = some (some (false, e)) := kind_csem (some (false, e))
theorem kind_rcv (e : Fin 3) : kind (.dma (rcvS e)) = some (some (true, e)) := kind_csem (some (true, e))

/-- What one transfer of a 4096 × 128 block credits. -/
abbrev N : ℕ := (part rM 0).view.dmaCredit
theorem N_pos : 0 < N := View.dmaCredit_pos _ (by decide)
theorem N_part (e : Fin 3) : (part rM e).view.dmaCredit = N := rfl
theorem N_send : sM.view.dmaCredit = N := rfl

/-! ## The contents -/

theorem cfg0_N : cfg0.N = 8 := by decide

/-- Round `r` as a grid point. -/
def ptOf (r : ℕ) : Fin cfg0.N := ⟨r % 8, by rw [cfg0_N]; omega⟩
theorem ptOf_val (t : Fin cfg0.N) : ptOf t.val = t := Fin.ext (Nat.mod_eq_of_lt (lt_of_lt_of_eq t.isLt cfg0_N))

/-- Device `c`'s block at round `r`, -/
def xin (r : ℕ) (c : Dev nD) : X F := iblk m c 0 (ptOf r)
/-- what it sends in exchange 0 (its block sorted), -/
def val0 (r : ℕ) (c : Dev nD) : X F := sortLocal (devWord c) (xin m r c)
/-- in exchange 1 -/
def val1 (r : ℕ) (c : Dev nD) : X F := mergeMid (devWord c) (keep (keepFirst (devWord c)) (val0 m r c) (val0 m r (p1 c)))
/-- and in exchange 2, -/
def val2 (r : ℕ) (c : Dev nD) : X F := keep (devClear (devWord c) 2#32) (val1 m r c) (val1 m r (p2 c))
/-- and its result. -/
def outv (r : ℕ) (c : Dev nD) : X F := mergeLast (keep (devClear (devWord c) 1#32) (val2 m r c) (val2 m r (p1 c)))
/-- What is sent in exchange `e`. -/
def sent (r : ℕ) (e : Fin 3) (c : Dev nD) : X F := if e = 0 then val0 m r c else if e = 1 then val1 m r c else val2 m r c

/-! ## The payloads -/

def sndPts (c : Dev nD) (f : Buf (Elt F) (sM.view.loc (c : Thread nD τ))) : sProp 𝕄 :=
  sM.view.loc (c : Thread nD τ) ↦[sM.view.set]{fullShare} f
def slotPts (e : Fin 3) (c : Dev nD) (f : Buf (Elt F) ((part rM e).view.loc (c : Thread nD τ))) : sProp 𝕄 :=
  (part rM e).view.loc (c : Thread nD τ) ↦[(part rM e).view.set]{fullShare} f

omit [FloatOps F] in
instance sndPts_storable (c : Dev nD) (f) : BI.Storable (upEmb : UEmb _ 𝕄) (sndPts (F := F) c f) := by unfold sndPts; infer_instance
omit [FloatOps F] in
instance slotPts_storable (e : Fin 3) (c : Dev nD) (f) : BI.Storable (upEmb : UEmb _ 𝕄) (slotPts (F := F) e c f) := by unfold slotPts; infer_instance

/-- A part of `c`'s receive buffer, to be filled in round `r`. -/
def freeSlot (e : Fin 3) (c : Dev nD) (r : ℕ) : sProp 𝕄 := iprop((∃ f, slotPts e c f) ∗ reached ER (rcvCell e c) r)
/-- A partner's signal hands over the parts of its receive buffer that are filled from here. -/
def barPay (c : Dev nD) (r : ℕ) (d : Bool) : sProp 𝕄 :=
  if d then freeSlot 1 (p2 c) r else iprop(freeSlot 0 (p1 c) r ∗ freeSlot 2 (p1 c) r)
/-- A landed copy hands over the part of the receive buffer with the partner's block in it, and that the partner has passed
    its barrier of the round. -/
def rcvPay (e : Fin 3) (c : Dev nD) (r : ℕ) : sProp 𝕄 :=
  iprop((∃ f, ⌜(part rM e).view.read (Elt F) f = sent m r e (pr e c)⌝ ∗ slotPts e c f) ∗ reached ER (barCell (pr e c)) (r + 1))
/-- A finished send returns the send buffer. -/
def sndPay (c : Dev nD) : sProp 𝕄 := iprop(∃ f, sndPts c f)

instance barPay_storable (c : Dev nD) (r : ℕ) (d : Bool) : BI.Storable (upEmb : UEmb _ 𝕄) (barPay (F := F) c r d) := by
  unfold barPay freeSlot; split <;> infer_instance
instance rcvPay_storable (e : Fin 3) (c : Dev nD) (r : ℕ) : BI.Storable (upEmb : UEmb _ 𝕄) (rcvPay m e c r) := by
  unfold rcvPay; infer_instance
instance sndPay_storable (c : Dev nD) : BI.Storable (upEmb : UEmb _ 𝕄) (sndPay (F := F) c) := by
  unfold sndPay; infer_instance

/-! ## The schedule -/

def dutiesOf : Option Kd → Finset Bool
  | some none => Finset.univ | some (some _) => {false} | none => ∅
def amountOf : Option Kd → ℕ
  | some none => 1 | _ => N
def payOf (c : Dev nD) (r : ℕ) (d : Bool) : Option Kd → sProp 𝕄
  | some none => barPay c r d | some (some (false, _)) => sndPay c | some (some (true, e)) => rcvPay m e c r | none => iprop(emp)

/-- Eight rounds: a barrier cell has two duties of one unit each, a send or receive cell one of the block's credit. -/
def Rd : Rounds.Schedule (GSem nD τ sig) Bool 𝕄 where
  duties g r := if r < 8 ∧ g.1.2 = .tc then dutiesOf (kind g.2) else ∅
  unitless _ := False
  amount g _ _ := amountOf (kind g.2)
  payload g r d := payOf m g.1.1 r d (kind g.2)
  amount_pos g _ _ _ := by
    show 0 < amountOf (kind g.2)
    unfold amountOf; split
    · exact Nat.one_pos
    · exact N_pos

instance Rd_payload_storable (g : GSem nD τ sig) (r : ℕ) (d : Bool) :
    BI.Storable (upEmb : UEmb _ 𝕄) ((Rd (F := F) m).payload g r d) := by
  show BI.Storable upEmb (payOf m g.1.1 r d (kind g.2))
  unfold payOf; split <;> infer_instance

section Sched
variable (c : Dev nD) (e : Fin 3) {r : ℕ}

theorem duties_bar (hr : r < 8) : (Rd (F := F) m).duties (barCell c) r = Finset.univ := by
  dsimp only [Rd]; rw [if_pos ⟨hr, rfl⟩, kind_bar]; rfl
theorem duties_snd (hr : r < 8) : (Rd (F := F) m).duties (sndCell e c) r = {false} := by
  dsimp only [Rd]; rw [if_pos ⟨hr, rfl⟩, kind_snd]; rfl
theorem duties_rcv (hr : r < 8) : (Rd (F := F) m).duties (rcvCell e c) r = {false} := by
  dsimp only [Rd]; rw [if_pos ⟨hr, rfl⟩, kind_rcv]; rfl
theorem duties_later (g : GSem nD τ sig) : ∀ r, 8 ≤ r → (Rd (F := F) m).duties g r = ∅ :=
  fun r hr => by dsimp only [Rd]; rw [if_neg fun h => by omega]

theorem amount_bar (d : Bool) : (Rd (F := F) m).amount (barCell c) r d = 1 := by dsimp only [Rd]; rw [kind_bar]; rfl
theorem amount_snd (d : Bool) : (Rd (F := F) m).amount (sndCell e c) r d = N := by dsimp only [Rd]; rw [kind_snd]; rfl
theorem amount_rcv (d : Bool) : (Rd (F := F) m).amount (rcvCell e c) r d = N := by dsimp only [Rd]; rw [kind_rcv]; rfl

theorem expect_bar (hr : r < 8) : (Rd (F := F) m).expect (barCell c) r = 2 := by
  unfold Schedule.expect Schedule.amountOf
  rw [duties_bar m c hr, Finset.sum_congr rfl fun d _ => amount_bar m c d, Finset.sum_const, Finset.card_univ, Fintype.card_bool, smul_eq_mul]
theorem expect_snd (hr : r < 8) : (Rd (F := F) m).expect (sndCell e c) r = N := by
  unfold Schedule.expect Schedule.amountOf; rw [duties_snd m c e hr, Finset.sum_singleton, amount_snd]
theorem expect_rcv (hr : r < 8) : (Rd (F := F) m).expect (rcvCell e c) r = N := by
  unfold Schedule.expect Schedule.amountOf; rw [duties_rcv m c e hr, Finset.sum_singleton, amount_rcv]

theorem payload_bar (d : Bool) : (Rd (F := F) m).payload (barCell c) r d = barPay c r d := by dsimp only [Rd]; rw [kind_bar]; rfl
theorem payload_snd (d : Bool) : (Rd (F := F) m).payload (sndCell e c) r d = sndPay c := by dsimp only [Rd]; rw [kind_snd]; rfl
theorem payload_rcv (d : Bool) : (Rd (F := F) m).payload (rcvCell e c) r d = rcvPay m e c r := by dsimp only [Rd]; rw [kind_rcv]; rfl

/-- A round of the barrier cell hands over both partners' parts, -/
theorem rest_bar (hr : r < 8) : bigSep ((Rd (F := F) m).duties (barCell c) r \ ∅) (fun d => (Rd (F := F) m).payload (barCell c) r d)
    = iprop((freeSlot 0 (p1 c) r ∗ freeSlot 2 (p1 c) r) ∗ freeSlot 1 (p2 c) r) := by
  rw [Finset.sdiff_empty, duties_bar m c hr, bigSep_univ_eq_bigSepL [false, true] (by decide) (by decide), bigSepL_cons_cons, bigSepL_singleton,
    payload_bar, payload_bar]
  rfl
/-- of a send cell the send buffer, -/
theorem rest_snd (hr : r < 8) : bigSep ((Rd (F := F) m).duties (sndCell e c) r \ ∅) (fun d => (Rd (F := F) m).payload (sndCell e c) r d) = sndPay c := by
  rw [Finset.sdiff_empty, duties_snd m c e hr, bigSep_singleton, payload_snd]
/-- of a receive cell the landed block. -/
theorem rest_rcv (hr : r < 8) : bigSep ((Rd (F := F) m).duties (rcvCell e c) r \ ∅) (fun d => (Rd (F := F) m).payload (rcvCell e c) r d) = rcvPay m e c r := by
  rw [Finset.sdiff_empty, duties_rcv m c e hr, bigSep_singleton, payload_rcv]

end Sched

/-! ## What a device owes, and the levels -/

/-- The copies device `c` owes in round `r`. -/
def owedCopies (c : Dev nD) (r : ℕ) : CellTallies nD τ sig ℕ :=
  tallyAt (rcvCell 2 (pr 2 c)) r N + tallyAt (rcvCell 1 (pr 1 c)) r N + tallyAt (rcvCell 0 (pr 0 c)) r N
/-- What it owes in round `r`: these and a unit to either partner's barrier. -/
def owedStep (c : Dev nD) (r : ℕ) : CellTallies nD τ sig ℕ :=
  owedCopies c r + tallyAt (barCell (p2 c)) r 1 + tallyAt (barCell (p1 c)) r 1
/-- What it owes from round `t` on. -/
def owedFrom (c : Dev nD) (t : ℕ) : CellTallies nD τ sig ℕ := ∑ r ∈ Finset.Ico t 8, owedStep c r

theorem Ico_step {t : ℕ} (ht : t < 8) : Finset.Ico t 8 = insert t (Finset.Ico (t + 1) 8) := by
  ext a; rw [Finset.mem_insert, Finset.mem_Ico, Finset.mem_Ico]; omega
theorem Ico_notMem (t : ℕ) : t ∉ Finset.Ico (t + 1) 8 := fun h => by have := (Finset.mem_Ico.mp h).1; omega

theorem owedFrom_step (c : Dev nD) {t : ℕ} (ht : t < 8) : owedFrom c t = owedFrom c (t + 1) + owedStep c t := by
  unfold owedFrom; rw [Ico_step ht, Finset.sum_insert (Ico_notMem t), add_comm]
theorem owedFrom_end (c : Dev nD) : owedFrom c 8 = 0 := by unfold owedFrom; rw [Finset.Ico_self, Finset.sum_empty]

def L (g : GSem nD τ sig) : Finset ℕ := if g.1.2 = .tc then Finset.range 8 else ∅
def lvOf (i : ℕ) : Option Kd → ℕ
  | some none => 4 * i + 1 | some (some (true, e)) => 4 * i + 2 + e.val | _ => 0
/-- In round `i` the barrier cells lie below the receive cells of the three exchanges, in their order; all of them below the
    next round's; every other cell at 0. -/
def lv (g : GSem nD τ sig) (i : ℕ) : ℕ := lvOf i (kind g.2)

theorem L_of_ne (g : GSem nD τ sig) (h : g.1.2 ≠ .tc) : L g = ∅ := if_neg h
theorem L_tc (c : Dev nD) (sm : SemLoc sig) : L ((c : Thread nD τ), sm) = Finset.range 8 := if_pos rfl
theorem lv_bar (c : Dev nD) (i : ℕ) : lv (barCell c) i = 4 * i + 1 := by unfold lv; rw [kind_bar]; rfl
theorem lv_snd (e : Fin 3) (c : Dev nD) (i : ℕ) : lv (sndCell e c) i = 0 := by unfold lv; rw [kind_snd]; rfl
theorem lv_rcv (e : Fin 3) (c : Dev nD) (i : ℕ) : lv (rcvCell e c) i = 4 * i + 2 + e.val := by unfold lv; rw [kind_rcv]; rfl

/-- Everything owed lies above level `n`. -/
def Above (n : ℕ) (O : CellTallies nD τ sig ℕ) : Prop := ∀ g u, 0 < O g u → u ∈ L g ∧ n < lv g u

theorem Above.zero (n : ℕ) : Above n 0 := fun _ _ h => absurd h (Nat.lt_irrefl 0)
theorem Above.add {n : ℕ} {A B : CellTallies nD τ sig ℕ} (hA : Above n A) (hB : Above n B) : Above n (A + B) := fun g u h => by
  rw [Pi.add_apply, Finsupp.add_apply] at h
  rcases Nat.eq_zero_or_pos (A g u) with h0 | h0
  · exact hB g u (by omega)
  · exact hA g u h0
theorem Above.sum {n : ℕ} {s : Finset ℕ} {O : ℕ → CellTallies nD τ sig ℕ} (h : ∀ i ∈ s, Above n (O i)) : Above n (∑ i ∈ s, O i) := by
  classical
  induction s using Finset.induction_on with
  | empty => rw [Finset.sum_empty]; exact Above.zero n
  | insert a s ha ih =>
    rw [Finset.sum_insert ha]
    exact (h a (Finset.mem_insert_self a s)).add (ih fun i hi => h i (Finset.mem_insert_of_mem hi))
theorem Above.tally {n : ℕ} (c : Dev nD) (sm : SemLoc sig) {r k : ℕ} (hr : r < 8) (h : n < lv ((c : Thread nD τ), sm) r) :
    Above n (tallyAt ((c : Thread nD τ), sm) r k) := fun g u hg => by
  obtain ⟨rfl, rfl⟩ := Pipeline.tallyAt_pos hg
  exact ⟨by rw [L_tc]; exact Finset.mem_range.mpr hr, h⟩
theorem Above.rcv {n : ℕ} (e : Fin 3) (c : Dev nD) {r k : ℕ} (hr : r < 8) (h : n < 4 * r + 2 + e.val) : Above n (tallyAt (rcvCell e c) r k) :=
  Above.tally c _ hr (by rw [lv_rcv]; exact h)
theorem Above.bar {n : ℕ} (c : Dev nD) {r k : ℕ} (hr : r < 8) (h : n < 4 * r + 1) : Above n (tallyAt (barCell c) r k) :=
  Above.tally c _ hr (by rw [lv_bar]; exact h)
theorem Above.copies {n : ℕ} (c : Dev nD) {r : ℕ} (hr : r < 8) (h : n < 4 * r + 2) : Above n (owedCopies c r) :=
  ((Above.rcv 2 _ hr (by omega)).add (Above.rcv 1 _ hr (by omega))).add (Above.rcv 0 _ hr (by omega))
theorem Above.owed {n : ℕ} (c : Dev nD) {t : ℕ} (h : n < 4 * t + 1) : Above n (owedFrom c t) :=
  Above.sum fun r hr => by
    have h2 := Finset.mem_Ico.mp hr
    exact ((Above.copies c h2.2 (by omega)).add (Above.bar _ h2.2 (by omega))).add (Above.bar _ h2.2 (by omega))

/-- A device may wait on a cell of its own below everything it owes. -/
theorem mayWait (c : Dev nD) (sm : SemLoc sig) (i n : ℕ) {O : CellTallies nD τ sig ℕ} (hi : i < 8) (hl : lv ((c : Thread nD τ), sm) i ≤ n) (hO : Above n O) :
    (levAts L lv : sProp 𝕄) ⊢ MayWait (c : Thread nD τ) sm i O :=
  MayOwe.of_cut (L := L) (lev := lv) n (fun p hp => by rw [Finset.mem_singleton.mp hp, L_tc]; exact Finset.mem_range.mpr hi)
    (fun g u hg => (hO g u hg).1) (fun p hp => by rw [Finset.mem_singleton.mp hp]; exact hl) (fun g u hg => (hO g u hg).2)

end Cert.KernelIdeal.Proto

end
-- ==== Proof.KernelIdeal.Body.lean ====
module

public import proofs.«01_k».proof.Proof.KernelIdeal.Protocol
public import Idealize.ShloMosaic.Lib.VecWindow
public import Idealize.ShloMosaic.Lib.Pipeline.Value

/-! # One grid point of the body, executed -/

@[expose] public section

noncomputable section

namespace Cert.KernelIdeal.Proto

open Cert.KernelIdeal Cert.KernelIdeal.Gen Cert.Stages

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

abbrev 𝒱₀ : Variants := Variants.none

/-! ## What a device holds between two grid points -/

/-- Every cell's invariant, under the name the launch allocated it at. -/
def allInv (K : Dev nD × Kd → ℕ) : sProp 𝕄 :=
  bigSep Finset.univ fun ck : Dev nD × Kd => cellInv ER (Rd m) (K ck) (kcell ck)
instance allInv_persistent (K : Dev nD × Kd → ℕ) : BI.Persistent (allInv m K) := by unfold allInv; infer_instance

theorem inv_bar (K : Dev nD × Kd → ℕ) (c : Dev nD) : allInv m K ⊢ cellInv ER (Rd m) (K (c, none)) (barCell c) :=
  bigSep_elim (Finset.mem_univ (c, (none : Kd)))
theorem inv_snd (K : Dev nD × Kd → ℕ) (e : Fin 3) (c : Dev nD) : allInv m K ⊢ cellInv ER (Rd m) (K (c, some (false, e))) (sndCell e c) :=
  bigSep_elim (Finset.mem_univ (c, (some (false, e) : Kd)))
theorem inv_rcv (K : Dev nD × Kd → ℕ) (e : Fin 3) (c : Dev nD) : allInv m K ⊢ cellInv ER (Rd m) (K (c, some (true, e))) (rcvCell e c) :=
  bigSep_elim (Finset.mem_univ (c, (some (true, e) : Kd)))

/-- The duty tokens device `c` pays exchange `e` of round `r` with, -/
def xToks (e : Fin 3) (c : Dev nD) (r : ℕ) : sProp 𝕄 :=
  iprop(dutyTok ER (rcvCell e (pr e c)) r false ∗ dutyTok ER (sndCell e c) r false)
/-- and the whole round. -/
def stepToks (c : Dev nD) (r : ℕ) : sProp 𝕄 :=
  iprop(dutyTok ER (barCell (p1 c)) r false ∗ dutyTok ER (barCell (p2 c)) r true ∗ xToks 0 c r ∗ xToks 1 c r ∗ xToks 2 c r)
/-- The credit round `r` pays `c`. -/
def stepCreds (c : Dev nD) (r : ℕ) : sProp 𝕄 :=
  iprop(cred (tallyAt (barCell c) r 2) ∗ cred (tallyAt (rcvCell 0 c) r N) ∗ cred (tallyAt (rcvCell 1 c) r N) ∗ cred (tallyAt (rcvCell 2 c) r N))
/-- The positions of exchange `e`'s two cells at round `r`, -/
def xPos (e : Fin 3) (c : Dev nD) (r : ℕ) : sProp 𝕄 :=
  iprop(atPos ER (sndCell e c) r ∅ 0 ∗ reached ER (sndCell e c) r ∗ atPos ER (rcvCell e c) r ∅ 0 ∗ reached ER (rcvCell e c) r)
theorem xPos_eq (e : Fin 3) (c : Dev nD) (r : ℕ) : (xPos e c r : sProp 𝕄)
    = iprop(atPos ER (sndCell e c) r ∅ 0 ∗ reached ER (sndCell e c) r ∗ atPos ER (rcvCell e c) r ∅ 0 ∗ reached ER (rcvCell e c) r) := rfl
/-- of the barrier's, its own and the partners', -/
def bPos (c : Dev nD) (r : ℕ) : sProp 𝕄 :=
  iprop(atPos ER (barCell c) r ∅ 0 ∗ reached ER (barCell (p1 c)) r ∗ reached ER (barCell (p2 c)) r)
/-- and the two scratch buffers, the receive buffer in its parts. -/
def bufs (c : Dev nD) : sProp 𝕄 :=
  iprop(sndPay c ∗ (∃ f, slotPts 0 c f) ∗ (∃ f, slotPts 1 c f) ∗ ∃ f, slotPts 2 c f)

/-- What device `c` holds before grid point `t`. -/
def held (K : Dev nD × Kd → ℕ) (c : Dev nD) (t : ℕ) : sProp 𝕄 :=
  iprop(allInv m K ∗ levAts L lv ∗ (bPos c t ∗ xPos 0 c t ∗ xPos 1 c t ∗ xPos 2 c t)
    ∗ bigSep (Finset.Ico t 8) (stepToks c) ∗ bigSep (Finset.Ico t 8) (stepCreds c) ∗ bufs c)

theorem bigSep_Ico_step {t : ℕ} (ht : t < 8) (Φ : ℕ → sProp 𝕄) : bigSep (Finset.Ico t 8) Φ = iprop(Φ t ∗ bigSep (Finset.Ico (t + 1) 8) Φ) := by
  rw [Ico_step ht, bigSep_insert (Ico_notMem t)]; rfl

/-! ## Reading and writing the buffers -/

theorem hz : (![0, 0] : Fin 2 → Nat) = fun _ => 0 := funext fun a => by fin_cases a <;> rfl

theorem read_block (M : Memref sig .tc .vmem S4096x128 .f32) (f : M.view.ty.Contents (Elt F)) :
    M.view.readAt (Elt F) rX.toLoadRect f = M.view.read (Elt F) f := View.readAt_full M.view f _

theorem read_stored (M : Memref sig .tc .vmem S4096x128 .f32) (f : M.view.ty.Contents (Elt F)) (w : X F) :
    M.view.read (Elt F) ((M.access rX).write (Elt F) f w Finset.univ) = w :=
  (View.readAt_full M.view _ _).symm.trans (View.read_write_univ (v := M.access rX) f w)

theorem load_sub (M : Memref sig .tc .vmem S4096x128 .f32) : M.view.setOn rX.toLoadRect.set ⊆ M.view.set := View.setOn_subset_set _ _
theorem store_sub (M : Memref sig .tc .vmem S4096x128 .f32) : (M.access rX).setOn Finset.univ ⊆ M.view.set := View.set_slice_subset _ _
theorem part_sub (e : Fin 3) : rM.view.setOn (rPart e).toLoadRect.set ⊆ (part rM e).view.set := by
  have h : (part rM e).view.set = (rM.view.slice (rPart e)).set := View.set_reshape _ _
  rw [h, View.set_slice]; exact subset_of_eq rfl

theorem ofPart_eq (p : Vec F S1x4096x128 .f32) (h : S1x4096x128.ShapeCasts S4096x128) : ofPart p = shapeCast S4096x128 p h := by
  unfold ofPart; with_reducible rfl
theorem read_slice (e : Fin 3) (f : rM.view.ty.Contents (Elt F)) (h : (rPart e).shape.ShapeCasts S4096x128) :
    (part rM e).view.read (Elt F) f = shapeCast S4096x128 (rM.view.readAt (Elt F) (rPart e).toLoadRect f) h :=
  Memref.read_squeeze_slice rM (rPart e) (fun _ => rfl) squeezes_S1x4096x128_S4096x128 h f
/-- Part `e` of the receive buffer, loaded. -/
theorem read_part (e : Fin 3) (f : rM.view.ty.Contents (Elt F)) (p : Vec F S1x4096x128 .f32) (hp : p = rM.view.readAt (Elt F) (rPart e).toLoadRect f) :
    ofPart p = (part rM e).view.read (Elt F) f := by
  subst hp
  have h : S1x4096x128.ShapeCasts S4096x128 := by decide
  exact (ofPart_eq _ h).trans (read_slice e f h).symm

/-- A block copied into part `e` is what is read there. -/
theorem read_landed (e : Fin 3) (fd : (part rM e).view.ty.Contents (Elt F)) (fs : sM.view.ty.Contents (Elt F)) :
    (part rM e).view.read (Elt F) ((part rM e).view.write (Elt F) fd (sM.view.read (Elt F) fs) Finset.univ) = sM.view.read (Elt F) fs :=
  View.read_write_univ _ _

theorem sndPay_intro (c : Dev nD) (f : Buf (Elt F) (sM.view.loc (c : Thread nD τ))) : (sndPts c f : sProp 𝕄) ⊢ sndPay c := by
  unfold sndPay; iintro H; iexists f; iexact H

attribute [local irreducible] keep mergeLast mergeMid sortLocal keepFirst devClear ofPart shapeCast

/-! ## One exchange -/

section Exch
variable (K : Dev nD × Kd → ℕ)

/-- The copy of a send buffer holding exchange `e`'s block to the partner's part `e`. -/
theorem wp_send_part (e : Fin 3) (c : Dev nD) {r : ℕ} (hr : r < 8) (fs : Buf (Elt F) (sM.view.loc (c : Thread nD τ)))
    (hfs : sM.view.read (Elt F) fs = sent m r e c) (fd : Buf (Elt F) ((part rM e).view.loc (pr e c : Thread nD τ)))
    (O : CellTallies nD τ sig ℕ) (W : Waits sig ℕ)
    {hsc : (part rM e : Memref sig (Dev.tc (pr e c) : Thread nD τ).2.kind .vmem S4096x128 .f32).view.ref.isScScratch = false}
    {hsrc : sM.view.WordExact} {hdst : (part rM e).view.WordExact}
    {hsem : DmaTarget.Typed .vmem (.dma (rcvS e)) (.remote (Dev.tc (pr e c) : Thread nD τ) (part rM e) (.dma (sndS e)) hsc)}
    {α : Type} {Q : α → sProp 𝕄} {k : PUnit → Prog (TpuEff nD τ sig (Elt F) Λ₀ .tc) α} :
    iprop(cellInv ER (Rd m) (K (c, some (false, e))) (sndCell e c) ∗ cellInv ER (Rd m) (K (pr e c, some (true, e))) (rcvCell e (pr e c))
        ∗ sndPts c fs ∗ (slotPts e (pr e c) fd ∗ reached ER (barCell c) (r + 1))
        ∗ owes (c : Thread nD τ) (O + tallyAt (rcvCell e (pr e c)) r N) W
        ∗ dutyTok ER (sndCell e c) r false ∗ reached ER (sndCell e c) r
        ∗ dutyTok ER (rcvCell e (pr e c)) r false ∗ reached ER (rcvCell e (pr e c)) r)
      ⊢ iprop(((cred (tallyAt (sndCell e c) r N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma sM (.remote (Dev.tc (pr e c) : Thread nD τ) (part rM e) (.dma (sndS e)) hsc) (.dma (rcvS e)) hsrc hdst hsem) k) Q) := by
  unfold sndPts slotPts
  exact Rounds.wp_send_pointsTo_with 𝒱₀ ER (Rd m) (c : Thread nD τ) none (κ₁ := K (c, some (false, e))) (κ₂ := K (pr e c, some (true, e)))
      (r₁ := r) (r₂ := r) (d₁ := false) (d₂ := false) (fd := fd) (F := reached ER (barCell c) (r + 1))
      (by rw [duties_snd m c e hr]; exact Finset.mem_singleton_self _) (by rw [duties_rcv m (pr e c) e hr]; exact Finset.mem_singleton_self _)
      r r N rfl (amount_snd m c e false) (amount_rcv m (pr e c) e false) O rfl (W := W)
      (by rw [payload_snd]; exact sndPay_intro c _)
      (by
        rw [payload_rcv]; unfold rcvPay slotPts; rw [pr_pr]
        iintro ⟨H, HF⟩
        isplitl [H]
        · iexists _; isplitr
          swap; · iexact H
          ipureintro; rw [read_landed]; exact hfs
        · iexact HF)

theorem wp_exch (e : Fin 3) (c n : Dev nD) (hn : n = pr e c) {r : ℕ} (hr : r < 8) (b : BitVec 1) (x : X F) (hx : x = sent m r e c)
    {O : CellTallies nD τ sig ℕ} (hO : Above (4 * r + 2 + e.val) O) (W : Waits sig ℕ) {α : Type} {Q : α → sProp 𝕄}
    (k : X F → Prog (TpuEff nD τ sig (Elt F) Λ₀ .tc) α) :
    iprop(allInv m K ∗ levAts L lv ∗ sndPay c ∗ freeSlot e (pr e c) r ∗ reached ER (barCell c) (r + 1)
        ∗ owes (c : Thread nD τ) (O + tallyAt (rcvCell e (pr e c)) r N) W ∗ xToks e c r ∗ xPos e c r ∗ cred (tallyAt (rcvCell e c) r N))
      ⊢ iprop((((∃ W, owes (c : Thread nD τ) O W) ∗ sndPay c ∗ (∃ f, slotPts e c f) ∗ reached ER (barCell (pr e c)) (r + 1) ∗ xPos e c (r + 1))
            -∗ wp frame (wpE (defs₀ (F := F)) 𝒱₀ (c : Thread nD τ) none) Set.univ (k (keep b x (sent m r e (pr e c)))) Q)
          -∗ wp frame (wpE (defs₀ (F := F)) 𝒱₀ (c : Thread nD τ) none) Set.univ
              (exch sM (Memref.isWhole_whole _) rM cc0_scratch2 cc0_scratch3 e n b x >>= k) Q) := by
  subst hn
  unfold exch
  simp only [Prog.lift, Prog.bind_op, Prog.bind_ret, Prog.pure_eq_ret]
  unfold sndPay freeSlot xToks xPos
  iintro ⟨#HI, #Hlev, ⟨%fs, Hs⟩, ⟨⟨%fd, Hd⟩, #HrV⟩, #HrB, HO, ⟨HtV, HtS⟩, ⟨HaS, #HrS, HaV, -⟩, HcV⟩ Hk
  unfold sndPts slotPts
  iapply (wp_load 𝒱₀ (c : Thread nD τ) none Set.univ (m := sM) (load_sub sM)) $$ Hs; iintro Hs
  iapply (wp_store 𝒱₀ (c : Thread nD τ) none Set.univ (m := sM) (r := rX) (Mk := Finset.univ) (store_sub sM)) $$ Hs; iintro Hs
  have hfs := (read_stored sM fs (shapeCast S4096x128 x rfl)).trans (shapeCast_self x rfl)
  iapply (wp_send_part m K e c hr _ (hfs.trans hx) fd O W) $$ [Hs Hd HO HtS HtV]
  · isplitr; · iapply (inv_snd m K e c); iexact HI
    isplitr; · iapply (inv_rcv m K e (pr e c)); iexact HI
    isplitl [Hs]; · unfold sndPts; iexact Hs
    isplitl [Hd]
    · isplitl [Hd]; · unfold slotPts; iexact Hd
      iexact HrB
    isplitl [HO]; · iexact HO
    isplitl [HtS]; · iexact HtS
    isplitr; · iexact HrS
    isplitl [HtV]; · iexact HtV
    iexact HrV
  iintro ⟨HcS, HO⟩
  iapply (Rounds.wp_wait_rest_token 𝒱₀ ER (Rd m) (c : Thread nD τ) none (κ := K (c, some (false, e)))
      (wpE_waitDma2_eq 𝒱₀ (c : Thread nD τ) none Set.univ) (Set.mem_univ _) r (O := O) (W := W) (R := r) (m := 0) (T := ∅)
      (by rw [Nat.zero_add, expect_snd m c e hr])) $$ [HcS HO HaS]
  · isplitr; · iapply (inv_snd m K e c); iexact HI
    isplitl [HcS]; · iexact HcS
    isplitl [HO]; · iexact HO
    isplitr; · iapply (mayWait c (.dma (sndS e)) r (4 * r + 2 + e.val) hr (by rw [lv_snd]; omega) hO); iexact Hlev
    iexact HaS
  iintro ⟨HO, HaS, #HrS', Hpay⟩
  ihave Hs := (Entails.of_eq (rest_snd m c e hr)) $$ Hpay
  iapply (Rounds.wp_wait_rest_token 𝒱₀ ER (Rd m) (c : Thread nD τ) none (κ := K (c, some (true, e)))
      (wpE_waitDma2_eq 𝒱₀ (c : Thread nD τ) none Set.univ) (Set.mem_univ _) r (O := O) (W := insert (SemLoc.dma (sndS e), r) W) (R := r) (m := 0) (T := ∅)
      (by rw [Nat.zero_add, expect_rcv m c e hr])) $$ [HcV HO HaV]
  · isplitr; · iapply (inv_rcv m K e c); iexact HI
    isplitl [HcV]; · iexact HcV
    isplitl [HO]; · iexact HO
    isplitr; · iapply (mayWait c (.dma (rcvS e)) r (4 * r + 2 + e.val) hr (by rw [lv_rcv]) hO); iexact Hlev
    iexact HaV
  iintro ⟨HO, HaV, #HrV', Hpay⟩
  ihave Hp := (Entails.of_eq (rest_rcv m c e hr)) $$ Hpay
  unfold rcvPay
  icases Hp with ⟨⟨%fl, %hfl, Hl⟩, #HrB'⟩
  unfold slotPts
  iapply (wp_load 𝒱₀ (c : Thread nD τ) none Set.univ (m := rM) (part_sub e)) $$ Hl; iintro Hl
  rw [show ofPart (rM.view.readAt (Elt F) (rPart e).toLoadRect fl) = sent m r e (pr e c) from (read_part e fl _ rfl).trans hfl]
  iapply Hk
  isplitl [HO]; · iexists _; iexact HO
  isplitl [Hs]; · unfold sndPay sndPts; iexact Hs
  isplitl [Hl]; · iexists _; iexact Hl
  isplitr; · iexact HrB'
  isplitl [HaS]; · iexact HaS
  isplitr; · iexact HrS'
  isplitl [HaV]; · iexact HaV
  iexact HrV'

/-! ## One grid point -/

theorem wp_step (c : Dev nD) {t : ℕ} (ht : t < 8) (M1 M2 : Memref sig .tc .vmem S4096x128 .f32)
    (f1 : Buf (Elt F) (M1.view.loc (c : Thread nD τ))) (hf1 : M1.view.read (Elt F) f1 = xin m t c) (f2 : Buf (Elt F) (M2.view.loc (c : Thread nD τ)))
    (W : Waits sig ℕ) (Q : PUnit → sProp 𝕄) :
    iprop(held m K c t ∗ owes (c : Thread nD τ) (owedFrom c t) W
        ∗ (M1.view.loc (c : Thread nD τ) ↦[M1.view.set]{fullShare} f1) ∗ (M2.view.loc (c : Thread nD τ) ↦[M2.view.set]{fullShare} f2)
        ∗ ((held m K c (t + 1) ∗ (∃ W, owes (c : Thread nD τ) (owedFrom c (t + 1)) W)
            ∗ owns (c : Thread nD τ) M1 fullShare (xin m t c) ∗ owns (c : Thread nD τ) M2 fullShare (outv m t c)) -∗ |={Set.univ}=> Q ⟨⟩))
      ⊢ wp frame (wpE (defs₀ (F := F)) 𝒱₀ (c : Thread nD τ) none) Set.univ
          (netBody M1 M2 sM (Memref.isWhole_whole _) rM cc0_scratch2 cc0_scratch3) Q := by
  unfold netBody
  simp only [semSignalWord, semWaitWord, Prog.lift, Prog.bind_op, Prog.bind_ret, Prog.pure_eq_ret, wp_deviceId]
  rw [owedFrom_step c ht]
  unfold held bPos bufs owedStep
  rw [bigSep_Ico_step ht, bigSep_Ico_step ht]
  unfold stepToks stepCreds
  rw [xPos_eq 0 c t, xPos_eq 1 c t, xPos_eq 2 c t]
  iintro ⟨⟨#HI, #Hlev, ⟨⟨HaB, #HrB1, #HrB2⟩, ⟨HaS0, #HrS0, HaV0, #HrV0⟩, ⟨HaS1, #HrS1, HaV1, #HrV1⟩, ⟨HaS2, #HrS2, HaV2, #HrV2⟩⟩,
    ⟨⟨HtB1, HtB2, Hx0, Hx1, Hx2⟩, Htoks⟩, ⟨⟨HcB, Hc0, Hc1, Hc2⟩, Hcreds⟩, ⟨Hsnd, Hs0, Hs1, Hs2⟩⟩, HO, Hin, Hout, Hk⟩
  simp only [dev1_eq c, dev2_eq c]
  rw [← add_assoc, ← add_assoc]
  -- the signal to the first partner, with parts 0 and 2
  iapply (Rounds.wp_signal 𝒱₀ ER (Rd m) (c : Thread nD τ) none (dst := (p1 c : Thread nD τ)) (κ := K (p1 c, none)) (r := t)
      (d := false) (by rw [duties_bar m (p1 c) ht]; exact Finset.mem_univ _) ((amount_bar m (p1 c) false).trans (by decide)) t
      (owedFrom c (t + 1) + owedCopies c t + tallyAt (barCell (p2 c)) t 1) rfl)
    $$ [HO HtB1 Hs0 Hs2]
  · isplitr; · iapply (inv_bar m K (p1 c)); iexact HI
    isplitl [HO]; · iexact HO
    isplitl [HtB1]; · iexact HtB1
    isplitl
    · rw [payload_bar]; unfold barPay freeSlot; rw [if_neg Bool.false_ne_true, p1_p1]
      isplitl [Hs0]
      · isplitl [Hs0]; · iexact Hs0
        iexact HrV0
      · isplitl [Hs2]; · iexact Hs2
        iexact HrV2
    iexact HrB1
  iintro HO
  -- and to the second, with part 1
  iapply (Rounds.wp_signal 𝒱₀ ER (Rd m) (c : Thread nD τ) none (dst := (p2 c : Thread nD τ)) (κ := K (p2 c, none)) (r := t)
      (d := true) (by rw [duties_bar m (p2 c) ht]; exact Finset.mem_univ _) ((amount_bar m (p2 c) true).trans (by decide)) t
      (owedFrom c (t + 1) + owedCopies c t) rfl)
    $$ [HO HtB2 Hs1]
  · isplitr; · iapply (inv_bar m K (p2 c)); iexact HI
    isplitl [HO]; · iexact HO
    isplitl [HtB2]; · iexact HtB2
    isplitl
    · rw [payload_bar]; unfold barPay freeSlot; rw [if_pos rfl, p2_p2]
      isplitl [Hs1]; · iexact Hs1
      iexact HrV1
    iexact HrB2
  iintro HO
  -- the wait for both partners' signals
  iapply (Rounds.wp_wait_rest_token 𝒱₀ ER (Rd m) (c : Thread nD τ) none (κ := K (c, none))
      (wpE_semWait_eq 𝒱₀ (c : Thread nD τ) none Set.univ) (Set.mem_univ _) t (O := owedFrom c (t + 1) + owedCopies c t) (W := W) (R := t) (m := 0) (T := ∅)
      (by rw [expect_bar m c ht]; decide)) $$ [HcB HO HaB]
  · isplitr; · iapply (inv_bar m K c); iexact HI
    isplitl [HcB]; · iexact HcB
    isplitl [HO]; · iexact HO
    isplitr
    · iapply (mayWait c (.reg barS) t (4 * t + 1) ht (by rw [lv_bar]) ((Above.owed c (by omega)).add (Above.copies c ht (by omega)))); iexact Hlev
    iexact HaB
  iintro ⟨HO, HaB, #HrB', Hpay⟩
  ihave Hp := (Entails.of_eq (rest_bar m c ht)) $$ Hpay
  icases Hp with ⟨⟨Hf0, Hf2⟩, Hf1⟩
  -- the block is read
  iapply (wp_load 𝒱₀ (c : Thread nD τ) none Set.univ (m := M1) (load_sub M1)) $$ Hin; iintro Hin
  rw [read_block, hf1]
  unfold owedCopies
  rw [← add_assoc, ← add_assoc]
  -- the three exchanges
  iapply (wp_exch m K 0 c _ (dev3_eq c) ht _ _ (by rw [shapeCast_self]; rfl)
      (O := owedFrom c (t + 1) + tallyAt (rcvCell 2 (pr 2 c)) t N + tallyAt (rcvCell 1 (pr 1 c)) t N)
      (((Above.owed c (by show 4 * t + 2 + 0 < _; omega)).add (Above.rcv 2 _ ht (by show 4 * t + 2 + 0 < 4 * t + 2 + 2; omega))).add
        (Above.rcv 1 _ ht (by show 4 * t + 2 + 0 < 4 * t + 2 + 1; omega))) _ _)
    $$ [Hsnd Hf0 HO Hx0 HaS0 HaV0 Hc0]
  · isplitr; · iexact HI
    isplitr; · iexact Hlev
    isplitl [Hsnd]; · iexact Hsnd
    isplitl [Hf0]; · iexact Hf0
    isplitr; · iexact HrB'
    isplitl [HO]; · iexact HO
    isplitl [Hx0]; · iexact Hx0
    isplitl [HaS0 HaV0]
    · unfold xPos
      isplitl [HaS0]; · iexact HaS0
      isplitr; · iexact HrS0
      isplitl [HaV0]; · iexact HaV0
      iexact HrV0
    iexact Hc0
  iintro ⟨⟨%W0, HO⟩, Hsnd, Hs0, #HrB1', Hp0⟩
  iapply (wp_exch m K 1 c _ (dev4_eq c) ht _ _ (by rw [shapeCast_self]; rfl)
      (O := owedFrom c (t + 1) + tallyAt (rcvCell 2 (pr 2 c)) t N)
      ((Above.owed c (by show 4 * t + 2 + 1 < _; omega)).add (Above.rcv 2 _ ht (by show 4 * t + 2 + 1 < 4 * t + 2 + 2; omega))) _ _)
    $$ [Hsnd Hf1 HO Hx1 HaS1 HaV1 Hc1]
  · isplitr; · iexact HI
    isplitr; · iexact Hlev
    isplitl [Hsnd]; · iexact Hsnd
    isplitl [Hf1]; · iexact Hf1
    isplitr; · iexact HrB'
    isplitl [HO]; · iexact HO
    isplitl [Hx1]; · iexact Hx1
    isplitl [HaS1 HaV1]
    · unfold xPos
      isplitl [HaS1]; · iexact HaS1
      isplitr; · iexact HrS1
      isplitl [HaV1]; · iexact HaV1
      iexact HrV1
    iexact Hc1
  iintro ⟨⟨%W1, HO⟩, Hsnd, Hs1, #HrB2', Hp1⟩
  iapply (wp_exch m K 2 c _ (dev5_eq c) ht _ _ (by rw [shapeCast_self]; rfl)
      (O := owedFrom c (t + 1)) (Above.owed c (by show 4 * t + 2 + 2 < _; omega)) _ _)
    $$ [Hsnd Hf2 HO Hx2 HaS2 HaV2 Hc2]
  · isplitr; · iexact HI
    isplitr; · iexact Hlev
    isplitl [Hsnd]; · iexact Hsnd
    isplitl [Hf2]; · iexact Hf2
    isplitr; · iexact HrB'
    isplitl [HO]; · iexact HO
    isplitl [Hx2]; · iexact Hx2
    isplitl [HaS2 HaV2]
    · unfold xPos
      isplitl [HaS2]; · iexact HaS2
      isplitr; · iexact HrS2
      isplitl [HaV2]; · iexact HaV2
      iexact HrV2
    iexact Hc2
  iintro ⟨⟨%W2, HO⟩, Hsnd, Hs2, -, Hp2⟩
  -- the result is written
  iapply (wp_load 𝒱₀ (c : Thread nD τ) none Set.univ (m := M2) (load_sub M2)) $$ Hout; iintro Hout
  iapply (wp_store 𝒱₀ (c : Thread nD τ) none Set.univ (m := M2) (r := rX) (Mk := Finset.univ) (store_sub M2)) $$ Hout; iintro Hout
  rw [wp_ret]
  iapply Hk
  isplitl [HaB Hp0 Hp1 Hp2 Htoks Hcreds Hsnd Hs0 Hs1 Hs2]
  · isplitr; · iexact HI
    isplitr; · iexact Hlev
    isplitl [HaB Hp0 Hp1 Hp2]
    · isplitl [HaB]
      · isplitl [HaB]; · iexact HaB
        isplitr; · iexact HrB1'
        iexact HrB2'
      isplitl [Hp0]; · iexact Hp0
      isplitl [Hp1]; · iexact Hp1
      iexact Hp2
    isplitl [Htoks]; · iexact Htoks
    isplitl [Hcreds]; · iexact Hcreds
    isplitl [Hsnd]; · iexact Hsnd
    isplitl [Hs0]; · iexact Hs0
    isplitl [Hs1]; · iexact Hs1
    iexact Hs2
  isplitl [HO]; · iexists W2; iexact HO
  isplitl [Hin]
  · unfold owns; iexists f1; isplitr; · ipureintro; exact hf1
    iexact Hin
  unfold owns; iexists _; isplitr
  swap; · iexact Hout
  ipureintro; rw [read_stored, shapeCast_self]; rfl

end Exch

end Cert.KernelIdeal.Proto

end
-- ==== Proof.KernelIdeal.Run.lean ====
module

public import proofs.«01_k».proof.Proof.KernelIdeal.Body
public import Idealize.ShloMosaic.Lib.SparseCore.Launch
public import Idealize.ShloMosaic.Lib.Pipeline.CollectiveSegs

/-! # The kernel's run -/

@[expose] public section

noncomputable section

namespace Cert.KernelIdeal.Proto

open Cert.KernelIdeal Cert.KernelIdeal.Gen Cert.Stages

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-! ## The last point closes the cells -/

/-- Exchange `e`'s two counters at zero. -/
def xZero (e : Fin 3) (c : Dev nD) : sProp 𝕄 := iprop(semVal (sndCell e c) 0 ∗ semVal (rcvCell e c) 0)
/-- What is left after the last point: the scratch buffers and every counter at zero. -/
def done (c : Dev nD) : sProp 𝕄 := iprop(bufs c ∗ semVal (barCell c) 0 ∗ xZero 0 c ∗ xZero 1 c ∗ xZero 2 c)

theorem close_x (K : Dev nD × Kd → ℕ) (e : Fin 3) (c : Dev nD) : iprop(allInv m K ∗ xPos e c 8) ⊢ |={Set.univ}=> (xZero e c : sProp 𝕄) := by
  unfold xPos xZero
  iintro ⟨#HI, HaS, -, HaV, -⟩
  imod (Rounds.cell_close ER (Rd m) (Set.mem_univ (K (c, some (false, e)))) (fun h => h) (R := 8) (duties_later m (sndCell e c))) $$ [HaS] with HzS
  · isplitr; · iapply (inv_snd m K e c); iexact HI
    iexact HaS
  imod (Rounds.cell_close ER (Rd m) (Set.mem_univ (K (c, some (true, e)))) (fun h => h) (R := 8) (duties_later m (rcvCell e c))) $$ [HaV] with HzV
  · isplitr; · iapply (inv_rcv m K e c); iexact HI
    iexact HaV
  imodintro
  isplitl [HzS] <;> iassumption

theorem close_all (K : Dev nD × Kd → ℕ) (c : Dev nD) : held m K c 8 ⊢ |={Set.univ}=> (done c : sProp 𝕄) := by
  unfold held bPos done
  iintro ⟨#HI, -, ⟨⟨HaB, -, -⟩, H0, H1, H2⟩, -, -, Hb⟩
  imod (Rounds.cell_close ER (Rd m) (Set.mem_univ (K (c, none))) (fun h => h) (R := 8) (duties_later m (barCell c))) $$ [HaB] with HzB
  · isplitr; · iapply (inv_bar m K c); iexact HI
    iexact HaB
  imod (close_x m K 0 c) $$ [H0] with Hz0
  · isplitr; · iexact HI
    iexact H0
  imod (close_x m K 1 c) $$ [H1] with Hz1
  · isplitr; · iexact HI
    iexact H1
  imod (close_x m K 2 c) $$ [H2] with Hz2
  · isplitr; · iexact HI
    iexact H2
  imodintro
  isplitl [Hb]; · iexact Hb
  isplitl [HzB]; · iexact HzB
  isplitl [Hz0]; · iexact Hz0
  isplitl [Hz1] <;> iassumption

/-! ## The pipeline's proof data -/

/-- Between points: what is held before round `t`; after the last, what is left. -/
def inv (c : Dev nD) (t : ℕ) : sProp 𝕄 := if t < 8 then iprop(∃ K, held m K c t) else done c

def dats (_ : Fin 1) (c : Dev nD) : Dat τ (Elt F) ℕ ℕ UU ℕ cfg0 c where
  A w := (s₀ m ρ).mem ((cfg0.win w).arr.view.loc (c : Thread nD τ))
  after w t := match w with
    | ⟨0, _⟩ => xin m t.val c
    | ⟨1, _⟩ => outv m t.val c
  Φ t := inv m c t.val
  q _ := fullShare
  owed t := owedFrom c t.val

theorem xin_eq (c : Dev nD) (t : Fin cfg0.N) : xin m t.val c = iblk m c 0 t := by unfold xin; rw [ptOf_val]

theorem before_in (c : Dev nD) (t : Fin cfg0.N) (d) : (dats m ρ 0 c).before (0 : Fin 2) t d = xin m t.val c := by
  rw [xin_eq]; unfold Dat.before; rw [if_pos (fetch0_0 t)]; rfl

theorem t_lt (t : Fin cfg0.N) : t.val < 8 := lt_of_lt_of_eq t.isLt cfg0_N

theorem body_obligation (c : Dev nD) : BodyObligation (dats (F := F) m ρ 0 c) (defs₀ (F := F)) 𝒱₀ 0 Set.univ := fun t => by
  rw [bigSep_W0, bigSep_W0]
  show iprop(inv m c t.val ∗ (dats m ρ 0 c).owesAt 0 t.castSucc
      ∗ (∃ d, owns (c : Thread nD τ) (st0_0 t) fullShare ((dats m ρ 0 c).before (0 : Fin 2) t d))
      ∗ (∃ d, owns (c : Thread nD τ) (st0_1 t) fullShare ((dats m ρ 0 c).before (1 : Fin 2) t d)))
    ⊢ wp frame (wpE (defs₀ (F := F)) 𝒱₀ c none) Set.univ (bodyAt0 t) (fun _ =>
      iprop(inv m c (t.val + 1) ∗ (dats m ρ 0 c).owesAt 0 t.succ
        ∗ owns (c : Thread nD τ) (st0_0 t) fullShare (xin m t.val c) ∗ owns (c : Thread nD τ) (st0_1 t) fullShare (outv m t.val c)))
  unfold bodyAt0
  rw [cc0_body_eq_net]
  have ht := t_lt t
  unfold Dat.owesAt Pipeline.owesWithin
  rw [show (dats m ρ 0 c).owed t.castSucc = owedFrom c t.val from rfl, show (dats m ρ 0 c).owed t.succ = owedFrom c (t.val + 1) from rfl,
    show inv m c t.val = _ from if_pos ht]
  conv_lhs => unfold owns
  iintro ⟨⟨%K, Hh⟩, ⟨%W, %hW, HO⟩, ⟨%d0, %f0, %hf0, H0⟩, ⟨%d1, %f1, %hf1, H1⟩⟩
  rw [before_in] at hf0
  iapply (wp_step m K c ht (st0_0 t) (st0_1 t) f0 hf0 f1 W)
  isplitl [Hh]; · iexact Hh
  isplitl [HO]; · iexact HO
  isplitl [H0]; · iexact H0
  isplitl [H1]; · iexact H1
  iintro ⟨Hh, ⟨%W', HO⟩, H0, H1⟩
  unfold inv
  by_cases h8 : t.val + 1 < 8
  · rw [if_pos h8]
    imodintro
    isplitl [Hh]; · iexists K; iexact Hh
    isplitl [HO]
    · iexists W'; isplitr; · ipureintro; exact fun _ _ => Or.inl trivial
      iexact HO
    isplitl [H0]; · iexact H0
    iexact H1
  · rw [if_neg h8, show t.val + 1 = 8 by omega]
    imod (close_all m K c) $$ Hh with Hd
    imodintro
    isplitl [Hd]; · iexact Hd
    isplitl [HO]
    · iexists W'; isplitr; · ipureintro; exact fun _ _ => Or.inl trivial
      iexact HO
    isplitl [H0]; · iexact H0
    iexact H1

/-! ## The receive buffer in its parts -/

theorem mem_slot (e : Fin 3) (i : S3x4096x128.Idx) : i ∈ (part rM e).view.set ↔ (i 0).val = e.val := by
  have h : (part rM e).view.set = ((View.whole cc0_scratch1).slice (rPart e)).set := View.set_reshape _ _
  rw [h, View.set_slice_whole, Rect.mem_set_unit]
  constructor
  · intro hi
    have h0 := hi 0
    have h1 : e.val ≤ (i 0).val ∧ (i 0).val < e.val + 1 := h0
    omega
  · intro hi a
    fin_cases a
    · show e.val ≤ (i 0).val ∧ (i 0).val < e.val + 1
      omega
    · exact ⟨Nat.zero_le _, lt_of_lt_of_eq (i 1).isLt (Nat.zero_add _).symm⟩
    · exact ⟨Nat.zero_le _, lt_of_lt_of_eq (i 2).isLt (Nat.zero_add _).symm⟩

theorem slots_disj : ∀ a ∈ (Finset.univ : Finset (Fin 3)), ∀ b ∈ (Finset.univ : Finset (Fin 3)), a ≠ b →
    Disjoint (part rM a).view.set (part rM b).view.set := fun a _ b _ hab => by
  rw [Finset.disjoint_left]
  intro i ha hb
  exact hab (Fin.ext (((mem_slot a i).mp ha).symm.trans ((mem_slot b i).mp hb)))

theorem slots_cover : Finset.biUnion (α := Fin 3) (β := S3x4096x128.Idx) Finset.univ (fun e => (part rM e).view.set) = Finset.univ := by
  rw [Finset.eq_univ_iff_forall]
  intro i
  rw [Finset.mem_biUnion]
  exact ⟨(i 0 : Fin 3), Finset.mem_univ _, (mem_slot _ i).mpr rfl⟩

theorem bigSep_fin3 (Φ : Fin 3 → sProp 𝕄) : bigSep Finset.univ Φ = iprop(Φ 0 ∗ Φ 1 ∗ Φ 2) := bigSep_univ_eq_bigSepL [0, 1, 2] (by decide) (by decide) Φ

theorem slots_split (c : Dev nD) (f : Buf (Elt F) ((c : Thread nD τ).loc cc0_scratch1)) :
    (((c : Thread nD τ).loc cc0_scratch1) ↦{fullShare} f : sProp 𝕄) ⊢ iprop((∃ f, slotPts 0 c f) ∗ (∃ f, slotPts 1 c f) ∗ ∃ f, slotPts 2 c f) := by
  have h := pointsTo_biUnion (Ix := ℕ) (Name := ℕ) (U := UU) (Lvl := ℕ) (ℓ := (c : Thread nD τ).loc cc0_scratch1) (q := fullShare) (f := f) Finset.univ
    (fun e : Fin 3 => (part rM e).view.set) slots_disj
  erw [slots_cover] at h
  rw [bigSep_fin3] at h
  unfold slotPts
  iintro H
  ihave H' := (Entails.of_eq h) $$ H
  icases H' with ⟨H0, H1, H2⟩
  isplitl [H0]; · iexists f; iexact H0
  isplitl [H1]; · iexists f; iexact H1
  iexists f; iexact H2

theorem slots_join (c : Dev nD) :
    iprop((∃ f, slotPts 0 c f) ∗ (∃ f, slotPts 1 c f) ∗ ∃ f, slotPts 2 c f)
      ⊢ (iprop(∃ f : Buf (Elt F) ((c : Thread nD τ).loc cc0_scratch1), ((c : Thread nD τ).loc cc0_scratch1) ↦{fullShare} f) : sProp 𝕄) := by
  unfold slotPts
  iintro ⟨⟨%f0, H0⟩, ⟨%f1, H1⟩, ⟨%f2, H2⟩⟩
  have h := pointsTo_biUnion_join (Ix := ℕ) (Name := ℕ) (U := UU) (Lvl := ℕ) (ℓ := (c : Thread nD τ).loc cc0_scratch1) (q := fullShare) Finset.univ
    (fun e : Fin 3 => (part rM e).view.set) (fun e : Fin 3 => match e with | 0 => f0 | 1 => f1 | 2 => f2) f0 slots_disj
  erw [slots_cover] at h
  rw [bigSep_fin3] at h
  replace h : iprop((((part rM 0).view.loc (c : Thread nD τ)) ↦[(part rM 0).view.set]{fullShare} f0)
      ∗ (((part rM 1).view.loc (c : Thread nD τ)) ↦[(part rM 1).view.set]{fullShare} f1)
      ∗ (((part rM 2).view.loc (c : Thread nD τ)) ↦[(part rM 2).view.set]{fullShare} f2)) ⊢ _ := h
  ihave H := h $$ [H0 H1 H2]
  · isplitl [H0]; · iexact H0
    isplitl [H1] <;> iassumption
  icases H with ⟨%g, -, H⟩
  iexists g; iexact H

theorem snd_eq (c : Dev nD) (f : Buf (Elt F) ((c : Thread nD τ).loc cc0_scratch0)) :
    sndPts c f = (((c : Thread nD τ).loc cc0_scratch0) ↦{fullShare} f : sProp 𝕄) := by
  unfold sndPts; rw [show sM.view.set = Finset.univ from View.set_whole _]

theorem bufs_intro (c : Dev nD) : (Pipeline.scopedRest (Ix := ℕ) (Name := ℕ) (U := UU) (Lvl := ℕ) (Val := Elt F) spec0 c : sProp 𝕄) ⊢ bufs c := by
  rw [scopedRest0_eq]; unfold bufs sndPay
  iintro ⟨⟨%f, H⟩, ⟨%g, Hg⟩⟩
  isplitl [H]; · iexists f; rw [snd_eq]; iexact H
  iapply (slots_split c g); iexact Hg

theorem bufs_elim (c : Dev nD) : bufs c ⊢ (Pipeline.scopedRest (Ix := ℕ) (Name := ℕ) (U := UU) (Lvl := ℕ) (Val := Elt F) spec0 c : sProp 𝕄) := by
  rw [scopedRest0_eq]; unfold bufs sndPay
  iintro ⟨⟨%f, H⟩, Hs⟩
  isplitl [H]; · iexists f; rw [← snd_eq]; iexact H
  iapply (slots_join c); iexact Hs

/-! ## The launch -/

theorem ownSemFacts : Pipeline.OwnSemFacts cfg0.spec osem := by decide

theorem share_eq (c : Dev nD) (w : Fin cfg0.W) : (dats m ρ 0 c).share w = fullShare := by unfold Dat.share; split <;> rfl

def allCells : Finset (GSem nD τ sig) := Finset.univ.map ⟨kcell, kcell_injective⟩

/-- The duties of a device's own cells in one round: the barrier's two, and one of each send and receive cell. -/
abbrev Du : Type := Bool ⊕ (Bool × Fin 3)
def duKd : Du → Kd := fun | .inl _ => none | .inr x => some x
def duD : Du → Bool := fun | .inl b => b | .inr _ => false
theorem du_inj {j j' : Du} (h : duKd j = duKd j') (h' : duD j = duD j') : j = j' := by
  revert j j'; decide

def tokOf (x : (Dev nD × Du) × ℕ) : GSem nD τ sig × ℕ × Bool := (kcell (x.1.1, duKd x.1.2), x.2, duD x.1.2)
theorem tokOf_injective : Function.Injective tokOf := by
  rintro ⟨⟨c, j⟩, r⟩ ⟨⟨c', j'⟩, r'⟩ h
  have h1 := kcell_injective (congrArg Prod.fst h)
  have h2 : r = r' := congrArg (fun x : GSem nD τ sig × ℕ × Bool => x.2.1) h
  have h3 : duD j = duD j' := congrArg (fun x : GSem nD τ sig × ℕ × Bool => x.2.2) h
  have h4 : c = c' := congrArg Prod.fst h1
  have h5 : j = j' := du_inj (congrArg Prod.snd h1) h3
  rw [h2, h4, h5]
def allToks : Finset (GSem nD τ sig × ℕ × Bool) := ((Finset.univ : Finset (Dev nD × Du)) ×ˢ Finset.Ico 0 8).map ⟨tokOf, tokOf_injective⟩

def u₀ : UU :=
  (initOf (Pipeline.cells cfgs cellOf_inj) (Pipeline.launchToks cfgs cellOf_inj), initOf allCells allToks)

/-- The token of duty `j` of device `c`'s cells in round `r`. -/
def tok (j : Du) (c : Dev nD) (r : ℕ) : sProp 𝕄 := dutyTok ER (kcell (c, duKd j)) r (duD j)
/-- All of them. -/
def toks (c : Dev nD) : sProp 𝕄 := bigSep Finset.univ fun j : Du => bigSep (Finset.Ico 0 8) fun r => tok j c r

/-- What the launch element deals device `c`, -/
def G (c : Dev nD) : sProp 𝕄 :=
  iprop((bigSep Finset.univ fun k : Kd => roundState ER (Rd m) (kcell (c, k)) 0)
    ∗ (bigSep Finset.univ fun k : Kd => iprop(atPos ER (kcell (c, k)) 0 ∅ 0 ∗ reached ER (kcell (c, k)) 0)) ∗ toks c)

/-- and what the launch makes of it. -/
def G' (c : Dev nD) : sProp 𝕄 :=
  iprop(∃ K, allInv m K ∗ (bPos c 0 ∗ xPos 0 c 0 ∗ xPos 1 c 0 ∗ xPos 2 c 0) ∗ bigSep (Finset.Ico 0 8) (stepToks c))

theorem bigSep_Kd (Φ : Kd → sProp 𝕄) : bigSep Finset.univ Φ = iprop(Φ none ∗ Φ (some (false, 0)) ∗ Φ (some (true, 0)) ∗ Φ (some (false, 1))
    ∗ Φ (some (true, 1)) ∗ Φ (some (false, 2)) ∗ Φ (some (true, 2))) :=
  bigSep_univ_eq_bigSepL [none, some (false, 0), some (true, 0), some (false, 1), some (true, 1), some (false, 2), some (true, 2)] (by decide) (by decide) Φ

theorem bigSep_Du (Φ : Du → sProp 𝕄) : bigSep Finset.univ Φ = iprop(Φ (.inl false) ∗ Φ (.inl true) ∗ Φ (.inr (true, 0)) ∗ Φ (.inr (false, 0))
    ∗ Φ (.inr (true, 1)) ∗ Φ (.inr (false, 1)) ∗ Φ (.inr (true, 2)) ∗ Φ (.inr (false, 2))) :=
  bigSep_univ_eq_bigSepL ([.inl false, .inl true, .inr (true, 0), .inr (false, 0), .inr (true, 1), .inr (false, 1), .inr (true, 2), .inr (false, 2)] : List Du)
    (by decide) (by decide) Φ

/-- Two iterated products may be taken in either order. -/
theorem bigSep_swap {I J : Type} [DecidableEq I] [DecidableEq J] (s : Finset I) (t : Finset J) (Φ : I → J → sProp 𝕄) :
    (bigSep s fun i => bigSep t fun j => Φ i j) = bigSep t fun j => bigSep s fun i => Φ i j := by
  induction t using Finset.induction_on with
  | empty => simp
  | insert j t hj ih => rw [bigSep_insert hj, ← ih, ← bigSep_sep]; exact bigSep_congr fun i _ => bigSep_insert hj

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Kd => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, SparseCore.bigSep_product, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := ℕ) (Name := ℕ) (U := UU) (Lvl := ℕ) (Val := Elt F) (τ := τ) osem c : sProp 𝕄)
    = iprop(semVal (sndCell 0 c) 0 ∗ semVal (rcvCell 0 c) 0 ∗ semVal (sndCell 1 c) 0 ∗ semVal (rcvCell 1 c) 0 ∗ semVal (sndCell 2 c) 0 ∗ semVal (rcvCell 2 c) 0) := by
  rw [Pipeline.ownSems0_eq_of_list c osem [(false, 0), (true, 0), (false, 1), (true, 1), (false, 2), (true, 2)] (by decide) (by decide)]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_Kd]
  iintro ⟨HS, HB⟩
  isplitl [HB]; · iexact HB
  iexact HS

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Kd => semVal (kcell (c, k)) 0) ∗ bigSep Finset.univ fun k : Kd => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The facts every device may use: all invariants, and that every cell has reached round 0. -/
def facts (K : Dev nD × Kd → ℕ) : sProp 𝕄 :=
  iprop(allInv m K ∗ bigSep Finset.univ fun ck : Dev nD × Kd => reached ER (kcell ck) 0)
instance facts_persistent (K : Dev nD × Kd → ℕ) : BI.Persistent (facts m K) := by unfold facts; infer_instance

theorem reached_at (ck : Dev nD × Kd) :
    (bigSep Finset.univ fun ck : Dev nD × Kd => (reached ER (kcell ck) 0 : sProp 𝕄)) ⊢ reached ER (kcell ck) 0 :=
  bigSep_elim (Finset.mem_univ ck)

theorem xPos_intro (e : Fin 3) (c : Dev nD) :
    iprop((bigSep Finset.univ fun ck : Dev nD × Kd => (reached ER (kcell ck) 0 : sProp 𝕄)) ∗ atPos ER (kcell (c, some (false, e))) 0 ∅ 0
        ∗ atPos ER (kcell (c, some (true, e))) 0 ∅ 0) ⊢ (xPos e c 0 : sProp 𝕄) := by
  unfold xPos
  iintro ⟨#HR, HS, HV⟩
  isplitl [HS]; · iexact HS
  isplitr; · iapply (reached_at (F := F) (c, some (false, e))); iexact HR
  isplitl [HV]; · iexact HV
  iapply (reached_at (F := F) (c, some (true, e))); iexact HR

theorem ghost_intro (K : Dev nD × Kd → ℕ) (c : Dev nD) :
    iprop(facts m K ∗ (bigSep Finset.univ fun k : Kd => atPos ER (kcell (c, k)) 0 ∅ 0) ∗ bigSep (Finset.Ico 0 8) (stepToks c)) ⊢ G' m c := by
  unfold facts G' bPos
  rw [bigSep_Kd]
  iintro ⟨⟨#HI, #HR⟩, ⟨HaB, S0, V0, S1, V1, S2, V2⟩, Htok⟩
  iexists K
  isplitr; · iexact HI
  isplitr [Htok]
  · isplitl [HaB]
    · isplitl [HaB]; · iexact HaB
      isplitr; · iapply (reached_at (F := F) (p1 c, none)); iexact HR
      iapply (reached_at (F := F) (p2 c, none)); iexact HR
    isplitl [S0 V0]
    · iapply (xPos_intro 0 c)
      isplitr; · iexact HR
      isplitl [S0] <;> iassumption
    isplitl [S1 V1]
    · iapply (xPos_intro 1 c)
      isplitr; · iexact HR
      isplitl [S1] <;> iassumption
    · iapply (xPos_intro 2 c)
      isplitr; · iexact HR
      isplitl [S2] <;> iassumption
  iexact Htok

/-- Whose cell the duty `j` that device `c` pays belongs to. -/
def payer (j : Du) : Dev nD ≃ Dev nD := match j with
  | .inl false => e1 | .inl true => e2 | .inr (true, e) => eqv e | .inr (false, _) => Equiv.refl _

theorem stepToks_intro (c : Dev nD) (r : ℕ) : (bigSep Finset.univ fun j : Du => tok j (payer j c) r) ⊢ (stepToks c r : sProp 𝕄) := by
  rw [bigSep_Du]; unfold stepToks xToks
  show iprop(dutyTok ER (barCell (p1 c)) r false ∗ dutyTok ER (barCell (p2 c)) r true
    ∗ dutyTok ER (rcvCell 0 (pr 0 c)) r false ∗ dutyTok ER (sndCell 0 c) r false
    ∗ dutyTok ER (rcvCell 1 (pr 1 c)) r false ∗ dutyTok ER (sndCell 1 c) r false
    ∗ dutyTok ER (rcvCell 2 (pr 2 c)) r false ∗ dutyTok ER (sndCell 2 c) r false) ⊢ _
  iintro ⟨HB1, HB2, V0, S0, V1, S1, V2, S2⟩
  isplitl [HB1]; · iexact HB1
  isplitl [HB2]; · iexact HB2
  isplitl [V0 S0]
  · isplitl [V0]; · iexact V0
    iexact S0
  isplitl [V1 S1]
  · isplitl [V1]; · iexact V1
    iexact S1
  isplitl [V2]; · iexact V2
  iexact S2

/-- The tokens dealt to the devices that pay with them. -/
theorem toks_around : (bigSep Finset.univ fun c : Dev nD => (toks c : sProp 𝕄)) ⊢ bigSep Finset.univ fun c : Dev nD => bigSep (Finset.Ico 0 8) (stepToks c) := by
  unfold toks
  rw [bigSep_swap, bigSep_congr (s := Finset.univ) (fun (j : Du) _ => bigSep_univ_equiv (payer j) (fun c : Dev nD => bigSep (Finset.Ico 0 8) fun r => (tok j c r : sProp 𝕄))),
    bigSep_swap]
  refine bigSep_mono fun c _ => ?_
  rw [bigSep_swap]
  exact bigSep_mono fun r _ => stepToks_intro c r

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Kd => iprop(∃ κ : ℕ, cellInv ER (Rd m) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd m) κ (kcell ck) : sProp 𝕄))) $$ HI
  icases HK with ⟨%K, #HI⟩
  ihave Htk := (toks_around (F := F)) $$ Htok
  iapply (bigSep_with_persistent (R := facts m K) fun c _ => ghost_intro m K c)
  isplitr
  · unfold facts allInv; isplitl; · iexact HI
    iexact HR
  · iapply (Entails.of_eq (bigSep_sep' Finset.univ (fun c : Dev nD => bigSep Finset.univ fun k : Kd => (atPos ER (kcell (c, k)) 0 ∅ 0 : sProp 𝕄)) fun c => bigSep (Finset.Ico 0 8) (stepToks c)).symm)
    isplitl [Hat]; · iexact Hat
    iexact Htk

/-- The launch's global step, over every device's semaphores at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem cred_step (c : Dev nD) (r : ℕ) : (Pipeline.launchCred (fun d => owedStep d r) c : sProp 𝕄) ⊢ stepCreds c r := by
  unfold owedStep owedCopies stepCreds
  rw [Pipeline.launchCred_add, Pipeline.launchCred_add, Pipeline.launchCred_add, Pipeline.launchCred_add]
  iintro ⟨⟨⟨⟨H2, H1⟩, H0⟩, HB2⟩, HB1⟩
  ihave HB1 := (Pipeline.launchCred_tallyAt (SemLoc.reg barS) p1 p1 p1_p1 p1_p1 r 1 c) $$ HB1
  ihave HB2 := (Pipeline.launchCred_tallyAt (SemLoc.reg barS) p2 p2 p2_p2 p2_p2 r 1 c) $$ HB2
  isplitl [HB1 HB2]
  · rw [show (tallyAt (barCell c) r 2 : CellTallies nD τ sig ℕ) = tallyAt (barCell c) r 1 + tallyAt (barCell c) r 1 from (tallyAt_add (barCell c) r 1 1).symm]
    iapply (cred_add _ _).2
    isplitl [HB1] <;> iassumption
  isplitl [H0]; · iapply (Pipeline.launchCred_tallyAt (SemLoc.dma (rcvS 0)) (pr 0) (pr 0) (pr_pr 0) (pr_pr 0) r N c); iexact H0
  isplitl [H1]; · iapply (Pipeline.launchCred_tallyAt (SemLoc.dma (rcvS 1)) (pr 1) (pr 1) (pr_pr 1) (pr_pr 1) r N c); iexact H1
  iapply (Pipeline.launchCred_tallyAt (SemLoc.dma (rcvS 2)) (pr 2) (pr 2) (pr_pr 2) (pr_pr 2) r N c); iexact H2

theorem creds (c : Dev nD) : (Pipeline.launchCred (fun d => owedFrom d 0) c : sProp 𝕄) ⊢ bigSep (Finset.Ico 0 8) (stepCreds c) := by
  unfold owedFrom
  rw [Pipeline.launchCred_sum]
  exact bigSep_mono fun r _ => cred_step c r

/-! ### The theorem's side conditions -/

/-- What a device's body starts from, the scratch buffers aside. -/
def start (c : Dev nD) : sProp 𝕄 := iprop(G' m c ∗ bigSep (Finset.Ico 0 8) (stepCreds c) ∗ levAts L lv)

theorem start_intro (c : Dev nD) :
    iprop(Pipeline.unscopedRestP Pipeline.Prefetch.none cfg0.spec c (fun b => m ((c : Thread nD τ).loc b)) ∗ levAts L lv
        ∗ Pipeline.launchCred (fun d => owedFrom d 0) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem phi_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(∃ K, held m K c 0) from (if_pos (by decide) : inv m c 0 = _)]
  unfold start G' held
  iintro ⟨⟨⟨%K, HI, Hp, Ht⟩, Hc, Hlev⟩, -, Hr⟩
  iexists K
  isplitl [HI]; · iexact HI
  isplitl [Hlev]; · iexact Hlev
  isplitl [Hp]; · iexact Hp
  isplitl [Ht]; · iexact Ht
  isplitl [Hc]; · iexact Hc
  iapply (bufs_intro c); iexact Hr

theorem phi_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = done c from (if_neg (by decide) : inv m c cfg0.N = _), ownSems0_eq, unscopedSems0_eq]
  unfold done xZero
  iintro ⟨Hb, HzB, ⟨S0, V0⟩, ⟨S1, V1⟩, ⟨S2, V2⟩⟩
  isplitl [HzB]; · iexact HzB
  isplitr [Hb]
  · isplitl [S0]; · iexact S0
    isplitl [V0]; · iexact V0
    isplitl [S1]; · iexact S1
    isplitl [V1]; · iexact V1
    isplitl [S2] <;> iassumption
  iapply (bufs_elim c); iexact Hb

theorem lv_stage : ∀ (w : Fin cfg0.W) (s : Fin (cfg0.win w).nbuf), lvOf 0 (kind (SemLoc.dma ((cfg0.win w).sem s))) ≤ 0 := by decide
theorem waits (c : Dev nD) : (levAts L lv : sProp 𝕄) ⊢ Pipeline.cellsWaits cfgs (dats m ρ) 0 0 c :=
  Pipeline.cellsWaits_intro cfgs (dats m ρ) 0 0 c fun w s t =>
    mayWait c _ 0 0 (by decide) (lv_stage w s) (Above.owed c (by omega))

/-! ### The run -/

/-- What array `w` of device `c` holds in the end. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- On the mesh of four devices, from any memory with zero counters, every weakly fair execution ends, with each device's
    arrays at the computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedFrom d 0) (howed₀ := fun _ => rfl) (howedN := fun c => owedFrom_end c)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi_intro m ρ) (hout := phi_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument array holds what it held. -/
theorem finalA_arg (c : Dev nD) : finalA m ρ c (0 : Fin 2) = m ((c : Thread nD τ).loc main_arg0) :=
  (dats (F := F) m ρ 0 c).arrAt_in (0 : Fin 2) rfl _

/-- The result array holds the points' results, block by block. -/
theorem finalA_out (c : Dev nD) : finalA m ρ c (1 : Fin 2) = (dats m ρ 0 c).arrAt (1 : Fin 2) cfg0.N := rfl

end Cert.KernelIdeal.Proto

end
-- ==== Proof.StageAt.lean ====
module

public import proofs.«01_k».proof.Proof.Stages
public import Idealize.ShloMosaic.PureOps.Ideal
public import Idealize.ShloMosaic.Lib.Pipeline.Value
public import Idealize.ShloMosaic.Lib.KernelVsHost
public import Idealize.ShloMosaic.Lib.SortNet.Bitonic
public import Idealize.ShloMosaic.Lib.Pointwise.Index
public import Idealize.ShloMosaic.Lib.Pointwise.Reshape
public import Idealize.ShloMosaic.Lib.Pointwise.SelectCore

/-!
# A stage at one row

At the real numbers a stage of the sort, in whichever of its two writings, leaves in row `r` of a column the smaller or the
larger of the elements in row `r` and in the row whose number differs in bit `j`: the smaller when the stage orders the pair
upwards and `r` is the lower row, or downwards and `r` is the upper one.
-/

@[expose] public section

noncomputable section

namespace Cert.Stages

open Idealize.ShloMosaic

/-- Whether a stage orders the pair of row `r` upwards. -/
def asc (d : Dir) (r : ℕ) : Bool :=
  match d with
  | .bit p => !r.testBit p
  | .scalar b => decide (b = 1)
  | .up => true

/-- A direction that both rows of a pair at distance `2 ^ j` agree on. -/
def Fits (d : Dir) (j : ℕ) : Prop :=
  match d with
  | .bit p => j < p ∧ p < 12
  | _ => True

/-- The row at distance `2 ^ j`. -/
def mate (j : ℕ) (hj : j < 12) (r : Fin 4096) : Fin 4096 :=
  ⟨r.val ^^^ 2 ^ j, Nat.xor_lt_two_pow (n := 12) r.isLt (Nat.pow_lt_pow_right (by decide) hj)⟩

/-! ## Bits of a row's number -/

/-- A number's bit `j` is the parity of its quotient by `2 ^ j`. -/
theorem testBit_parity (r j : ℕ) : r.testBit j = decide (r / 2 ^ j % 2 = 1) := Nat.testBit_eq_decide_div_mod_eq

/-- Where bit `j` is clear, flipping it adds `2 ^ j`. -/
theorem flip_clear {r j : ℕ} (h : r.testBit j = false) : r ^^^ 2 ^ j = r + 2 ^ j :=
  SortNet.xor_two_pow_of_clear r j ((SortNet.and_two_pow_eq_zero_iff_testBit r j).mpr h)

/-- Where bit `j` is set, flipping it takes `2 ^ j` away. -/
theorem flip_set {r j : ℕ} (h : r.testBit j = true) : (r ^^^ 2 ^ j) + 2 ^ j = r := by
  have hc : (r ^^^ 2 ^ j).testBit j = false := by rw [Nat.testBit_xor, h, Nat.testBit_two_pow_self]; rfl
  rw [← flip_clear hc, Nat.xor_assoc, Nat.xor_self, Nat.xor_zero]

/-- The comparison of a masked row number with zero tells whether the masked bit is clear. -/
theorem mask_eq (r p : ℕ) (hp : p < 32) :
    IntOp.cmpi .eq (IntOp.andi (BitVec.ofNat 32 r) (BitVec.ofNat 32 (2 ^ p))) 0#32 = BitVec.ofBool (!r.testBit p) := by
  unfold IntOp.cmpi IntOp.andi
  refine congrArg BitVec.ofBool ?_
  show (BitVec.ofNat 32 r &&& BitVec.ofNat 32 (2 ^ p) == 0#32) = _
  rw [← BitVec.ofNat_and]
  cases h : r.testBit p
  · rw [(SortNet.and_two_pow_eq_zero_iff_testBit r p).mpr h]; rfl
  · rw [show r &&& 2 ^ p = 2 ^ p from Nat.eq_of_testBit_eq fun i => by
      rw [Nat.testBit_and, Nat.testBit_two_pow]
      by_cases hi : p = i
      · subst hi; rw [h, Bool.true_and]
      · rw [decide_eq_false hi, Bool.and_false]]
    have hlt : 2 ^ p < 2 ^ 32 := Nat.pow_lt_pow_right (by decide) hp
    have hpos : 0 < 2 ^ p := Nat.two_pow_pos p
    simp only [Bool.not_true, beq_eq_false_iff_ne, ne_eq]
    intro h0
    have := congrArg BitVec.toNat h0
    rw [BitVec.toNat_ofNat, Nat.mod_eq_of_lt hlt] at this
    exact absurd this (Nat.pos_iff_ne_zero.mp hpos)

/-- Rounding down to a multiple of `2 ^ (j + 1)` keeps the bits above `j`. -/
theorem testBit_group {r j p : ℕ} (h : j < p) : (r / 2 ^ (j + 1) * 2 ^ (j + 1)).testBit p = r.testBit p := by
  rw [Nat.testBit_mul_two_pow, Nat.testBit_div_two_pow, decide_eq_true (Nat.succ_le_of_lt h), Bool.true_and]
  congr 1; omega

/-! ## A stage by rotations -/

theorem clear_apply (p : ℕ) (hp : p < 32) (i : SC.Idx) : clear (2 ^ p) i = BitVec.ofBool (!(i 0).val.testBit p) := by
  have : iota .tc SC 32 [0] iotas_rows i = BitVec.ofNat 32 (i 0).val := by
    show BitVec.ofNat 32 (0 * _ + (i 0).val) = _
    rw [Nat.zero_mul, Nat.zero_add]
  rw [← mask_eq _ p hp, ← this]
  rfl

theorem spread_apply (v : IVec SC 1) (r : Fin 4096) (q : Fin 128) : spread v (ix2 r q) = v (ix2 r 0) := by
  unfold spread
  rw [shapeCast_self]
  exact broadcastTo_apply _ _ _ _ fun a => by fin_cases a <;> rfl

theorem xor_bits (a b : Bool) : IntOp.xori (IntOp.xori (BitVec.ofBool a) (BitVec.ofBool b)) 1#1 = BitVec.ofBool (a == b) := by
  revert a b; decide

theorem bit_eq (b : BitVec 1) : b = BitVec.ofBool (decide (b = 1)) := by revert b; decide

theorem keepMin_apply (j : ℕ) (hj : j < 12) (d : Dir) (hd : Fits d j) (i : SC.Idx) :
    keepMin (2 ^ j) d i = BitVec.ofBool ((!(i 0).val.testBit j) == asc d (i 0).val) := by
  cases d with
  | bit p =>
    show IntOp.xori (IntOp.xori (clear (2 ^ j) i) (clear (2 ^ p) i)) 1#1 = _
    rw [clear_apply j (by omega), clear_apply p (by have := hd.2; omega), xor_bits]; rfl
  | scalar b =>
    show IntOp.xori (IntOp.xori (clear (2 ^ j) i) b) 1#1 = _
    have hb : b = BitVec.ofBool (decide (b = 1)) := bit_eq b
    rw [clear_apply j (by omega), hb, xor_bits]
    show _ = BitVec.ofBool (_ == decide (_ = 1))
    rw [← hb]
  | up =>
    show clear (2 ^ j) i = _
    rw [clear_apply j (by omega)]
    show _ = BitVec.ofBool (_ == true)
    cases (i 0).val.testBit j <;> rfl

theorem select_bit {α : Type} (b : Bool) (x y : α) : Scalar.select (BitVec.ofBool b) x y = if b then x else y := by
  cases b
  · exact if_neg (by decide)
  · exact if_pos (by decide)

/-- A stage at distance `2 ^ j` by rotations, at row `r` of column `q`. -/
theorem small_apply (d : Dir) (j : ℕ) (hj : j < 12) (hd : Fits d j) (x : X Ideal) (r : Fin 4096) (q : Fin 128) :
    small (2 ^ j) d x (ix2 r q) = if (!r.val.testBit j) == asc d r.val then min (x (ix2 r q)) (x (ix2 (mate j hj r) q))
      else max (x (ix2 r q)) (x (ix2 (mate j hj r) q)) := by
  have hk : 2 ^ j < 4096 := Nat.pow_lt_pow_right (a := 2) (by decide) hj
  have hk0 : 0 < 2 ^ j := Nat.two_pow_pos j
  have hp : Scalar.select (spread (clear (2 ^ j)) (ix2 r q)) (dynamicRotate 0 (BitVec.ofNat 32 (4096 - 2 ^ j)) none x rotates_rows (ix2 r q))
      (dynamicRotate 0 (BitVec.ofNat 32 (2 ^ j)) none x rotates_rows (ix2 r q)) = x (ix2 (mate j hj r) q) := by
    rw [spread_apply, clear_apply j (by omega), select_bit]
    show (if (!r.val.testBit j) = true then _ else _) = _
    cases h : r.val.testBit j
    · rw [if_pos (show (!false) = true from rfl)]
      have e := flip_clear h
      have hm : r.val ^^^ 2 ^ j < 4096 := (mate j hj r).isLt
      refine dynamicRotate_apply _ _ _ _ _ _ fun b => ?_
      have hn : (BitVec.ofNat 32 (4096 - 2 ^ j)).toNat = 4096 - 2 ^ j := by
        rw [BitVec.toNat_ofNat, Nat.mod_eq_of_lt (by omega)]
      fin_cases b
      · show r.val ^^^ 2 ^ j = (r.val + 4096 - (BitVec.ofNat 32 (4096 - 2 ^ j)).toNat % 4096) % 4096
        rw [hn, e]; rw [e] at hm; omega
      · rfl
    · rw [if_neg (show ¬(!true) = true by decide)]
      have e := flip_set h
      refine dynamicRotate_apply _ _ _ _ _ _ fun b => ?_
      have hn : (BitVec.ofNat 32 (2 ^ j)).toNat = 2 ^ j := by
        rw [BitVec.toNat_ofNat, Nat.mod_eq_of_lt (by omega)]
      have := r.isLt
      fin_cases b
      · show r.val ^^^ 2 ^ j = (r.val + 4096 - (BitVec.ofNat 32 (2 ^ j)).toNat % 4096) % 4096
        rw [hn]; omega
      · rfl
  show Scalar.select (spread (keepMin (2 ^ j) d) (ix2 r q)) (min (x (ix2 r q)) (Scalar.select _ _ _)) (max (x (ix2 r q)) (Scalar.select _ _ _)) = _
  rw [hp, spread_apply, keepMin_apply j hj d hd, select_bit]
  rfl

/-! ## A stage by halves of row groups -/

section Halves
variable {m k : ℕ}

theorem group_lt (h : m * 2 * k = 4096) (r : Fin 4096) : r.val / (2 * k) < m := by
  have hk : 0 < 2 * k := by rcases Nat.eq_zero_or_pos k with h0 | h0 <;> [(subst h0; omega); omega]
  rw [Nat.div_lt_iff_lt_mul hk, ← Nat.mul_assoc, h]; exact r.isLt
theorem width_pos (h : m * 2 * k = 4096) : 0 < k := by
  rcases Nat.eq_zero_or_pos k with h0 | h0 <;> [(subst h0; omega); omega]

/-- The lower and the upper row of the pair in row group `a` at place `c`. -/
theorem pair_lt (h : m * 2 * k = 4096) (a : Fin m) (b : Fin 2) (c : Fin k) : (a.val * 2 + b.val) * k + c.val < 4096 := by
  have h1 : a.val * 2 + b.val + 1 ≤ m * 2 := by have := a.isLt; have := b.isLt; omega
  have h2 := Nat.mul_le_mul_right k h1
  rw [h, Nat.add_mul, Nat.one_mul] at h2
  have := c.isLt; omega
def row (h : m * 2 * k = 4096) (a : Fin m) (b : Fin 2) (c : Fin k) : Fin 4096 := ⟨(a.val * 2 + b.val) * k + c.val, pair_lt h a b c⟩

/-- The rows in groups, at a place: the row of the block. -/
theorem split_apply (h : m * 2 * k = 4096) (x : X Ideal) (a : Fin m) (b : Fin 2) (c : Fin k) (q : Fin 128) :
    shapeCast (B4 m k) x (casts_split h) (ix4 a b c q) = x (ix2 (row h a b c) q) := by
  refine shapeCast_apply _ _ _ _ ?_
  rw [rowMajor_val2 _ 128 rfl, rowMajor_val4 _ (2 * (k * 128)) (k * 128) 128 rfl rfl rfl]
  show ((a.val * 2 + b.val) * k + c.val) * 128 + q.val = a.val * (2 * (k * 128)) + b.val * (k * 128) + c.val * 128 + q.val
  ring

/-- Two halves glued, at a row: the half the row lies in. -/
theorem glue_apply (h : m * 2 * k = 4096) (y z : FVec Ideal (B3 m k) .f32) (a : Fin m) (b : Fin 2) (c : Fin k) (q : Fin 128) :
    glue h y z (ix2 (row h a b c) q) = if b = 0 then y (ix3 a c q) else z (ix3 a c q) := by
  unfold glue
  have add (w : FVec Ideal (B3 m k) .f32) : shapeCast (B41 m k) w (casts_add m k) (ix4 a 0 c q) = w (ix3 a c q) := by
    refine shapeCast_apply _ _ _ _ ?_
    rw [rowMajor_val3 _ (k * 128) 128 rfl rfl, rowMajor_val4 _ (1 * (k * 128)) (k * 128) 128 rfl rfl rfl]
    show a.val * (k * 128) + c.val * 128 + q.val = a.val * (1 * (k * 128)) + 0 * (k * 128) + c.val * 128 + q.val
    ring
  rw [shapeCast_apply (s := B4 m k) _ _ _ (ix4 a b c q) (by
    rw [rowMajor_val2 _ 128 rfl, rowMajor_val4 _ (2 * (k * 128)) (k * 128) 128 rfl rfl rfl]
    show a.val * (2 * (k * 128)) + b.val * (k * 128) + c.val * 128 + q.val = ((a.val * 2 + b.val) * k + c.val) * 128 + q.val
    ring)]
  by_cases hb : b = 0
  · subst hb
    rw [if_pos rfl, ← add y]
    refine concatenate_pair_apply_left (t := B4 m k) (s₁ := B41 m k) (s₂ := B41 m k) 1 _ _ _ (ix4 a 0 c q) rfl (ix4 a 0 c q) fun e => ?_
    fin_cases e <;> rfl
  · have hb1 : b = 1 := by omega
    subst hb1
    rw [if_neg (by decide), ← add z]
    refine concatenate_pair_apply_right (t := B4 m k) (s₁ := B41 m k) (s₂ := B41 m k) 1 _ _ _ (ix4 a 1 c q) rfl rfl (ix4 a 0 c q) (fun e he => ?_) rfl
    fin_cases e <;> first | rfl | exact absurd rfl he

theorem loHalf_apply (y : FVec Ideal (B4 m k) .f32) (a : Fin m) (c : Fin k) (q : Fin 128) : loHalf y (ix3 a c q) = y (ix4 a 0 c q) := by
  unfold loHalf
  rw [shapeCast_apply (s := B41 m k) _ _ _ (ix4 a 0 c q) (by
    rw [rowMajor_val3 _ (k * 128) 128 rfl rfl, rowMajor_val4 _ (1 * (k * 128)) (k * 128) 128 rfl rfl rfl]
    show a.val * (1 * (k * 128)) + 0 * (k * 128) + c.val * 128 + q.val = a.val * (k * 128) + c.val * 128 + q.val
    ring)]
  unfold extractStridedSlice
  exact congrArg y (funext fun e => Fin.ext (by fin_cases e <;> exact Nat.zero_add _))

theorem hiHalf_apply (y : FVec Ideal (B4 m k) .f32) (a : Fin m) (c : Fin k) (q : Fin 128) : hiHalf y (ix3 a c q) = y (ix4 a 1 c q) := by
  unfold hiHalf
  rw [shapeCast_apply (s := B41 m k) _ _ _ (ix4 a 0 c q) (by
    rw [rowMajor_val3 _ (k * 128) 128 rfl rfl, rowMajor_val4 _ (1 * (k * 128)) (k * 128) 128 rfl rfl rfl]
    show a.val * (1 * (k * 128)) + 0 * (k * 128) + c.val * 128 + q.val = a.val * (k * 128) + c.val * 128 + q.val
    ring)]
  unfold extractStridedSlice
  exact congrArg y (funext fun e => Fin.ext (by fin_cases e <;> first | exact Nat.zero_add _ | rfl))

end Halves

/-- A group's mask bit, spread over the group: whether the bit is clear in the group's rows. -/
theorem spreadGroup_apply {m j p : ℕ} (hp : p < 32) (a : Fin m) (c : Fin (2 ^ j)) (q : Fin 128) :
    spreadGroup (2 ^ j) (groupClear m (2 ^ j) (2 ^ p)) (ix3 a c q) = BitVec.ofBool (!(a.val * 2 ^ (j + 1)).testBit p) := by
  unfold spreadGroup
  rw [shapeCast_self, broadcastTo_apply _ _ _ (ix3 a 0 0) fun e => by
    fin_cases e
    · show a.val = if m = 1 then 0 else a.val
      split
      · have := a.isLt; omega
      · rfl
    · rfl
    · rfl]
  rw [← mask_eq _ p hp, Nat.pow_succ', BitVec.ofNat_mul]
  have : iota .tc (B1 m) 32 [0] (iotas_blocks m) (ix3 a 0 0) = BitVec.ofNat 32 a.val := by
    show BitVec.ofNat 32 (0 * _ + a.val) = _
    rw [Nat.zero_mul, Nat.zero_add]
  rw [← this]
  rfl

/-- A stage at distance `2 ^ j` by halves, at row `r` of column `q`. -/
theorem big_apply (d : Dir) (j : ℕ) (hj : j < 12) (hd : Fits d j) (x : X Ideal) (r : Fin 4096) (q : Fin 128) :
    big (rows_pow hj) d x (ix2 r q) = if (!r.val.testBit j) == asc d r.val then min (x (ix2 r q)) (x (ix2 (mate j hj r) q))
      else max (x (ix2 r q)) (x (ix2 (mate j hj r) q)) := by
  have h := rows_pow hj
  have hk0 : 0 < 2 ^ j := Nat.two_pow_pos j
  obtain ⟨a, ha⟩ : ∃ a : Fin (2 ^ (11 - j)), a.val = r.val / 2 ^ (j + 1) :=
    ⟨⟨r.val / 2 ^ (j + 1), by rw [Nat.pow_succ']; exact group_lt h r⟩, rfl⟩
  obtain ⟨b, hb⟩ : ∃ b : Fin 2, b.val = r.val / 2 ^ j % 2 := ⟨⟨_, Nat.mod_lt _ (by decide)⟩, rfl⟩
  obtain ⟨c, hc⟩ : ∃ c : Fin (2 ^ j), c.val = r.val % 2 ^ j := ⟨⟨_, Nat.mod_lt _ hk0⟩, rfl⟩
  have e1 : r.val / 2 ^ (j + 1) = r.val / 2 ^ j / 2 := by rw [Nat.pow_succ, Nat.div_div_eq_div_mul]
  have hr : r = row h a b c := by
    refine Fin.ext ?_
    show r.val = (a.val * 2 + b.val) * 2 ^ j + c.val
    rw [ha, hb, hc, e1, Nat.div_add_mod' (r.val / 2 ^ j) 2, Nat.div_add_mod']
  have hbit : r.val.testBit j = decide (b = 1) := by
    rw [testBit_parity, ← hb]
    exact decide_eq_decide.mpr ⟨fun h => Fin.ext h, fun h => by rw [h]; rfl⟩
  have hm : mate j hj r = row h a (1 - b) c := by
    refine Fin.ext ?_
    show r.val ^^^ 2 ^ j = (a.val * 2 + (1 - b).val) * 2 ^ j + c.val
    have hv : r.val = (a.val * 2 + b.val) * 2 ^ j + c.val := congrArg Fin.val hr
    by_cases h1 : b = 1
    · rw [decide_eq_true h1] at hbit
      have e := flip_set hbit
      subst h1
      have : r.val = (a.val * 2 + 0) * 2 ^ j + c.val + 2 ^ j := by rw [hv]; show (a.val * 2 + 1) * 2 ^ j + c.val = _; ring
      show r.val ^^^ 2 ^ j = (a.val * 2 + 0) * 2 ^ j + c.val
      exact Nat.add_right_cancel (e.trans this)
    · rw [decide_eq_false h1] at hbit
      have e := flip_clear hbit
      have h0 : b = 0 := by omega
      subst h0
      rw [e, hv]
      show (a.val * 2 + 0) * 2 ^ j + c.val + 2 ^ j = (a.val * 2 + 1) * 2 ^ j + c.val
      ring
  have hlo : loHalf (shapeCast (B4 (2 ^ (11 - j)) (2 ^ j)) x (casts_split h)) (ix3 a c q) = x (ix2 (row h a 0 c) q) := by
    rw [loHalf_apply, split_apply h]
  have hhi : hiHalf (shapeCast (B4 (2 ^ (11 - j)) (2 ^ j)) x (casts_split h)) (ix3 a c q) = x (ix2 (row h a 1 c) q) := by
    rw [hiHalf_apply, split_apply h]
  have key (u : Bool) : (if b = 0 then (if u then min (x (ix2 (row h a 0 c) q)) (x (ix2 (row h a 1 c) q)) else max (x (ix2 (row h a 0 c) q)) (x (ix2 (row h a 1 c) q)))
      else (if u then max (x (ix2 (row h a 0 c) q)) (x (ix2 (row h a 1 c) q)) else min (x (ix2 (row h a 0 c) q)) (x (ix2 (row h a 1 c) q))))
      = if (!r.val.testBit j) == u then min (x (ix2 r q)) (x (ix2 (mate j hj r) q)) else max (x (ix2 r q)) (x (ix2 (mate j hj r) q)) := by
    rw [hbit, hm, hr]
    by_cases h1 : b = 1
    · subst h1
      rw [min_comm (x (ix2 (row h a 1 c) q)), max_comm (x (ix2 (row h a 1 c) q))]
      cases u <;> rfl
    · have h0 : b = 0 := by omega
      subst h0
      cases u <;> rfl
  have hat (y z : FVec Ideal (B3 (2 ^ (11 - j)) (2 ^ j)) .f32) :
      glue h y z (ix2 r q) = if b = 0 then y (ix3 a c q) else z (ix3 a c q) := by
    rw [hr]; exact glue_apply h y z a b c q
  cases d with
  | bit p =>
    have hg : spreadGroup (2 ^ j) (groupClear (2 ^ (11 - j)) (2 ^ j) (2 ^ p)) (ix3 a c q) = BitVec.ofBool (!r.val.testBit p) := by
      rw [spreadGroup_apply (by have := hd.2; omega), ha, testBit_group hd.1]
    rw [← key]
    refine (hat _ _).trans ?_
    show (if b = 0 then Scalar.select (spreadGroup (2 ^ j) (groupClear (2 ^ (11 - j)) (2 ^ j) (2 ^ p)) (ix3 a c q)) (min (loHalf _ _) (hiHalf _ _)) (max (loHalf _ _) (hiHalf _ _))
      else Scalar.select (spreadGroup (2 ^ j) (groupClear (2 ^ (11 - j)) (2 ^ j) (2 ^ p)) (ix3 a c q)) (max (loHalf _ _) (hiHalf _ _)) (min (loHalf _ _) (hiHalf _ _))) = _
    rw [hg, select_bit, select_bit, hlo, hhi]
    rfl
  | scalar u =>
    rw [← key]
    refine (hat _ _).trans ?_
    have hu := bit_eq u
    show _ = if b = 0 then (if decide (u = 1) = true then _ else _) else (if decide (u = 1) = true then _ else _)
    generalize decide (u = 1) = v at hu ⊢
    subst hu
    rw [select_bit, select_bit, ← hlo, ← hhi]
    cases v <;> rfl
  | up =>
    rw [← key]
    refine (hat _ _).trans ?_
    rw [← hlo, ← hhi]
    rfl

/-- A stage at distance `2 ^ j`, at row `r` of column `q`. -/
theorem stage_apply (d : Dir) (j : ℕ) (hj : j < 12) (hd : Fits d j) (x : X Ideal) (r : Fin 4096) (q : Fin 128) :
    stage d j hj x (ix2 r q) = if (!r.val.testBit j) == asc d r.val then min (x (ix2 r q)) (x (ix2 (mate j hj r) q))
      else max (x (ix2 r q)) (x (ix2 (mate j hj r) q)) := by
  unfold stage
  split
  · exact small_apply d j hj hd x r q
  · exact big_apply d j hj hd x r q

end Cert.Stages

end
-- ==== Proof.Column.lean ====
module

public import proofs.«01_k».proof.Proof.StageAt
public import Idealize.ShloMosaic.Lib.SortNet.Sorts
public import Idealize.ShloMosaic.Lib.SortFacts
public import Idealize.ShloMosaic.Lib.SortNet.HostSort
public import Mathlib.Data.List.OfFn

/-!
# The four devices' stages as one sorting network on a column

The blocks of the four devices under each other are one column of `2 ^ 14` elements. The local stages, run by all devices at
once, and the exchanges between two devices are stages of the bitonic sorting network on this column; together they are the
whole network. So the column ends sorted, and a sorted rearrangement is unique: it is what the host's sort gives.
-/

@[expose] public section

noncomputable section

namespace Cert.Stages

open Idealize.ShloMosaic

/-- A block on each of the four devices. -/
abbrev Blocks : Type := Fin 4 → X Ideal

/-- The device and the row in which an element of the joined column lies. -/
def devOf (g : Fin (2 ^ 14)) : Fin 4 := ⟨g.val / 2 ^ 12, Nat.div_lt_of_lt_mul g.isLt⟩
def rowOf (g : Fin (2 ^ 14)) : Fin 4096 := ⟨g.val % 2 ^ 12, Nat.mod_lt _ (by decide)⟩

/-- Column `q` of the four blocks under each other. -/
def col (B : Blocks) (q : Fin 128) : Fin (2 ^ 14) → EReal := fun g => B (devOf g) (ix2 (rowOf g) q)

/-! ## Bits of a position -/

theorem testBit_row {g : Fin (2 ^ 14)} {p : ℕ} (h : p < 12) : (rowOf g).val.testBit p = g.val.testBit p := by
  show (g.val % 2 ^ 12).testBit p = _
  rw [Nat.testBit_mod_two_pow, decide_eq_true h, Bool.true_and]
theorem testBit_dev (g : Fin (2 ^ 14)) (t : ℕ) : (devOf g).val.testBit t = g.val.testBit (12 + t) := by
  show (g.val / 2 ^ 12).testBit t = _
  rw [Nat.testBit_div_two_pow, Nat.add_comm]
theorem testBit_top (g : Fin (2 ^ 14)) {p : ℕ} (h : 14 ≤ p) : g.val.testBit p = false :=
  Nat.testBit_lt_two_pow (lt_of_lt_of_le g.isLt (Nat.pow_le_pow_right (by decide) h))

open SortNet (partner)

theorem devOf_partner_local {s : ℕ} (hs : s < 12) (g : Fin (2 ^ 14)) : devOf (partner 14 s g) = devOf g := by
  refine Fin.ext (Nat.eq_of_testBit_eq fun i => ?_)
  rw [testBit_dev, testBit_dev, SortNet.partner_val (by omega), Nat.testBit_xor, Nat.testBit_two_pow,
    decide_eq_false (by omega), Bool.xor_false]
theorem rowOf_partner_local {s : ℕ} (hs : s < 12) (g : Fin (2 ^ 14)) : rowOf (partner 14 s g) = mate s hs (rowOf g) := by
  refine Fin.ext (Nat.eq_of_testBit_eq fun i => ?_)
  show ((partner 14 s g).val % 2 ^ 12).testBit i = ((g.val % 2 ^ 12) ^^^ 2 ^ s).testBit i
  rw [SortNet.partner_val (by omega), Nat.testBit_mod_two_pow, Nat.testBit_xor, Nat.testBit_xor, Nat.testBit_mod_two_pow, Nat.testBit_two_pow]
  by_cases hi : i < 12
  · rw [decide_eq_true hi, Bool.true_and, Bool.true_and]
  · rw [decide_eq_false hi, Bool.false_and, Bool.false_and, decide_eq_false (by omega)]; rfl
theorem devOf_partner_far {t : ℕ} (ht : t < 2) (g : Fin (2 ^ 14)) : (devOf (partner 14 (12 + t) g)).val = (devOf g).val ^^^ 2 ^ t := by
  refine Nat.eq_of_testBit_eq fun i => ?_
  rw [testBit_dev, SortNet.partner_val (by omega), Nat.testBit_xor, Nat.testBit_xor, testBit_dev, Nat.testBit_two_pow, Nat.testBit_two_pow]
  congr 1
  exact decide_eq_decide.mpr (by omega)
theorem rowOf_partner_far {t : ℕ} (ht : t < 2) (g : Fin (2 ^ 14)) : rowOf (partner 14 (12 + t) g) = rowOf g := by
  refine Fin.ext (Nat.eq_of_testBit_eq fun i => ?_)
  show ((partner 14 (12 + t) g).val % 2 ^ 12).testBit i = (g.val % 2 ^ 12).testBit i
  rw [SortNet.partner_val (by omega), Nat.testBit_mod_two_pow, Nat.testBit_mod_two_pow, Nat.testBit_xor, Nat.testBit_two_pow]
  by_cases hi : i < 12
  · rw [decide_eq_false (show ¬(12 + t = i) by omega), Bool.xor_false]
  · rw [decide_eq_false hi, Bool.false_and, Bool.false_and]

/-! ## A network's stage at one position -/

/-- Whether level `l` of the network orders the pair of position `g` downwards. -/
def lvl (l : ℕ) (g : Fin (2 ^ 14)) : Bool := (decide (g.val &&& 2 ^ (l + 1) = 0)) == false

theorem lvl_eq (l : ℕ) (g : Fin (2 ^ 14)) : lvl l g = g.val.testBit (l + 1) := by
  unfold lvl
  have h := SortNet.and_two_pow_eq_zero_iff_testBit g.val (l + 1)
  cases hb : g.val.testBit (l + 1)
  · rw [decide_eq_true (h.mpr hb)]; rfl
  · rw [decide_eq_false fun h0 => absurd ((h.mp h0).symm.trans hb) (by decide)]; rfl

theorem lvl_partner {s l : ℕ} (hs : s < 14) (h : s ≤ l) (g : Fin (2 ^ 14)) : lvl l (partner 14 s g) = lvl l g := by
  rw [lvl_eq, lvl_eq, SortNet.partner_val hs, Nat.testBit_xor, Nat.testBit_two_pow, decide_eq_false (by omega), Bool.xor_false]

/-- A stage of level `l` at a position: the smaller element where the pair is ordered upwards and the position is the lower
    one, or downwards and it is the upper one, and the larger one otherwise. -/
theorem net_apply {s l : ℕ} (hs : s < 14) (h : s ≤ l) (v : Fin (2 ^ 14) → EReal) (g : Fin (2 ^ 14)) :
    SortNet.Network.apply (SortNet.stage 14 s (lvl l)) v g
      = if (!g.val.testBit s) == !lvl l g then min (v g) (v (partner 14 s g)) else max (v g) (v (partner 14 s g)) := by
  cases hb : g.val.testBit s
  · have h0 : g.val &&& 2 ^ s = 0 := (SortNet.and_two_pow_eq_zero_iff_testBit g.val s).mpr hb
    rw [(SortNet.apply_stage hs (lvl l) v g h0).1]
    cases lvl l g <;> rfl
  · have h0 : (partner 14 s g).val &&& 2 ^ s = 0 := by
      refine (SortNet.and_two_pow_eq_zero_iff_testBit _ s).mpr ?_
      rw [SortNet.partner_val hs, Nat.testBit_xor, hb, Nat.testBit_two_pow_self]; rfl
    have e := (SortNet.apply_stage hs (lvl l) v (partner 14 s g) h0).2
    rw [SortNet.partner_partner hs, lvl_partner hs h] at e
    rw [e, min_comm (v g), max_comm (v g)]
    cases lvl l g <;> rfl

/-! ## The devices' steps as stages -/

/-- A local stage on every device is the network's stage at the same distance. -/
theorem col_stage {s l : ℕ} (hs : s < 12) (h : s ≤ l) (D : Fin 4 → Dir) (hf : ∀ d, Fits (D d) s)
    (hD : ∀ g, asc (D (devOf g)) (rowOf g).val = !lvl l g) (B : Blocks) (q : Fin 128) :
    col (fun d => stage (D d) s hs (B d)) q = SortNet.Network.apply (SortNet.stage 14 s (lvl l)) (col B q) := by
  funext g
  rw [net_apply (by omega) h]
  show stage (D (devOf g)) s hs (B (devOf g)) (ix2 (rowOf g) q) = _
  rw [stage_apply _ s hs (hf _), testBit_row hs, hD g]
  unfold col
  rw [devOf_partner_local hs, rowOf_partner_local hs]

/-- The local stages at distances `2 ^ (n - 1)`, …, 1 on every device. -/
theorem col_mergeDown {l : ℕ} (D : Fin 4 → Dir) (hD : ∀ g, asc (D (devOf g)) (rowOf g).val = !lvl l g) (q : Fin 128) :
    ∀ (n : ℕ) (hn : n ≤ 12), n ≤ l + 1 → (∀ d s, s < n → Fits (D d) s) → ∀ B : Blocks,
      col (fun d => mergeDown (D d) n hn (B d)) q
        = SortNet.Network.apply ((List.range n).reverse.flatMap fun s => SortNet.stage 14 s (lvl l)) (col B q)
  | 0, _, _, _, _ => rfl
  | n + 1, hn, h, hf, B => by
    rw [List.range_succ, List.reverse_append, List.reverse_singleton, List.singleton_append, List.flatMap_cons,
      SortNet.Network.apply_append, ← col_stage hn (by omega) D (fun d => hf d n (Nat.lt_succ_self n)) hD]
    exact col_mergeDown D hD q n _ (by omega) (fun d s hs => hf d s (Nat.lt_succ_of_lt hs)) fun d => stage (D d) n hn (B d)

/-- An exchange between the devices whose numbers differ in bit `t` is the network's stage at distance `2 ^ (12 + t)`. -/
theorem col_exchange {t l : ℕ} (ht : t < 2) (h : 12 + t ≤ l) (pr : Fin 4 → Fin 4) (hpr : ∀ d, (pr d).val = d.val ^^^ 2 ^ t)
    (b : Fin 4 → BitVec 1) (hb : ∀ g, b (devOf g) = BitVec.ofBool ((!g.val.testBit (12 + t)) == !lvl l g)) (B : Blocks) (q : Fin 128) :
    col (fun d => keep (b d) (B d) (B (pr d))) q = SortNet.Network.apply (SortNet.stage 14 (12 + t) (lvl l)) (col B q) := by
  funext g
  rw [net_apply (by omega) h]
  have hd : devOf (partner 14 (12 + t) g) = pr (devOf g) := Fin.ext (by rw [devOf_partner_far ht, hpr])
  show keep (b (devOf g)) (B (devOf g)) (B (pr (devOf g))) (ix2 (rowOf g) q) = _
  unfold col keep
  rw [hb g, select_bit, hd, rowOf_partner_far ht]
  cases ((!g.val.testBit (12 + t)) == !lvl l g) <;> rfl

/-! ## The whole sort -/

section Whole

variable (w : Fin 4 → BitVec 32) (hw1 : ∀ d, devClear (w d) 1#32 = BitVec.ofBool (!d.val.testBit 0))
  (hw2 : ∀ d, devClear (w d) 2#32 = BitVec.ofBool (!d.val.testBit 1))

theorem beq_true (b : Bool) : (b == !false) = b := by cases b <;> rfl

theorem asc_scalar (b : Bool) (r : ℕ) : asc (.scalar (BitVec.ofBool b)) r = b := by
  show decide (_ = _) = b
  cases b <;> decide

include hw1 in
/-- The first `p` phases of the devices' local sorts are the first `p` levels of the network. -/
theorem col_sortUpTo (q : Fin 128) : ∀ (p : ℕ) (hp : p ≤ 12) (B : Blocks),
    col (fun d => sortUpTo (w d) p hp (B d)) q = SortNet.Network.apply (SortNet.levelsNet 14 false p) (col B q)
  | 0, _, _ => rfl
  | p + 1, hp, B => by
    rw [SortNet.levelsNet_succ, SortNet.Network.apply_append, ← col_sortUpTo q p (Nat.le_of_succ_le hp) B]
    refine col_mergeDown (l := p) (fun d => phaseDir (w d) (p + 1)) (fun g => ?_) q (p + 1) hp (Nat.le_refl _) (fun d s hs => ?_) _
    · show asc (phaseDir _ _) _ = _
      unfold phaseDir
      rw [lvl_eq]
      by_cases h : p + 1 < 12
      · rw [if_pos h, ← testBit_row h]; rfl
      · rw [if_neg h, hw1, asc_scalar, testBit_dev]
        congr 2; omega
    · show Fits (phaseDir _ _) _
      unfold phaseDir
      by_cases h : p + 1 < 12
      · rw [if_pos h]; exact ⟨hs, h⟩
      · rw [if_neg h]; trivial

/-- The four devices' blocks after the local sort, -/
def all0 (B : Blocks) : Blocks := fun d => sortLocal (w d) (B d)
/-- the first exchange and its merge, -/
def all1 (p : Fin 4 → Fin 4) (A : Blocks) : Blocks := fun d => mergeMid (w d) (keep (keepFirst (w d)) (A d) (A (p d)))
/-- the second exchange, -/
def all2 (p : Fin 4 → Fin 4) (A : Blocks) : Blocks := fun d => keep (devClear (w d) 2#32) (A d) (A (p d))
/-- and the third exchange and its merge. -/
def all3 (p : Fin 4 → Fin 4) (A : Blocks) : Blocks := fun d => mergeLast (keep (devClear (w d) 1#32) (A d) (A (p d)))

include hw1 hw2 in
/-- The devices' sort, with its exchanges, is the bitonic sorting network on every column. -/
theorem col_all (p1 p2 : Fin 4 → Fin 4) (h1 : ∀ d, (p1 d).val = d.val ^^^ 1) (h2 : ∀ d, (p2 d).val = d.val ^^^ 2) (B : Blocks) (q : Fin 128) :
    col (all3 w p1 (all2 w p2 (all1 w p1 (all0 w B)))) q = SortNet.Network.apply (SortNet.sortNet 14 false) (col B q) := by
  have e0 : col (all0 w B) q = SortNet.Network.apply (SortNet.levelsNet 14 false 12) (col B q) := col_sortUpTo w hw1 q 12 (Nat.le_refl _) B
  have e1 (A : Blocks) : col (all1 w p1 A) q = SortNet.Network.apply (SortNet.levelNet 14 false 12) (col A q) := by
    show _ = SortNet.Network.apply ((List.range (12 + 1)).reverse.flatMap fun s => SortNet.stage 14 s (lvl 12)) (col A q)
    rw [List.range_succ, List.reverse_append, List.reverse_singleton, List.singleton_append, List.flatMap_cons, SortNet.Network.apply_append]
    rw [← col_exchange (t := 0) (by decide) (Nat.le_refl 12) p1 h1 (fun d => keepFirst (w d)) (fun g => by
      show keepFirst _ = _
      unfold keepFirst
      rw [hw1, hw2, lvl_eq, testBit_dev, testBit_dev]
      exact xor_bits _ _) A q]
    refine col_mergeDown (l := 12) (fun d => .scalar (devClear (w d) 2#32)) (fun g => ?_) q 12 (Nat.le_refl _) (by decide) (fun _ _ _ => trivial) _
    show asc (.scalar _) _ = _
    rw [hw2, asc_scalar, lvl_eq, testBit_dev]
  have e3 (A : Blocks) : col (all3 w p1 (all2 w p2 A)) q = SortNet.Network.apply (SortNet.levelNet 14 false 13) (col A q) := by
    have up (g : Fin (2 ^ 14)) : lvl 13 g = false := by rw [lvl_eq, testBit_top g (Nat.le_refl 14)]
    show _ = SortNet.Network.apply ((List.range (12 + 1 + 1)).reverse.flatMap fun s => SortNet.stage 14 s (lvl 13)) (col A q)
    rw [List.range_succ, List.reverse_append, List.reverse_singleton, List.singleton_append, List.flatMap_cons, SortNet.Network.apply_append,
      List.range_succ, List.reverse_append, List.reverse_singleton, List.singleton_append, List.flatMap_cons, SortNet.Network.apply_append]
    rw [← col_exchange (t := 1) (by decide) (Nat.le_refl 13) p2 h2 (fun d => devClear (w d) 2#32) (fun g => by
        show devClear _ _ = _
        rw [hw2, up, testBit_dev]; congr 1; exact (beq_true _).symm) A q,
      ← col_exchange (t := 0) (by decide) (by decide) p1 h1 (fun d => devClear (w d) 1#32) (fun g => by
        show devClear _ _ = _
        rw [hw1, up, testBit_dev]; congr 1; exact (beq_true _).symm) _ q]
    exact col_mergeDown (l := 13) (fun _ => .up) (fun g => by rw [up]; rfl) q 12 (Nat.le_refl _) (by decide) (fun _ _ _ => trivial) _
  rw [e3, e1, e0, SortNet.sortNet_eq_levelsNet, SortNet.levelsNet_succ 14 false 13, SortNet.levelsNet_succ 14 false 12,
    SortNet.Network.apply_append, SortNet.Network.apply_append]

end Whole

/-! ## Sorted rearrangements -/

/-- Two rearrangements of one vector that both ascend are equal. -/
theorem ascending_unique {n : ℕ} (v : Fin n → EReal) (σ τ : Equiv.Perm (Fin n)) (hσ : Monotone (v ∘ σ)) (hτ : Monotone (v ∘ τ)) :
    v ∘ σ = v ∘ τ := by
  have hp : (List.ofFn (v ∘ σ)).Perm (List.ofFn (v ∘ τ)) := (Equiv.Perm.ofFn_comp_perm σ v).trans (Equiv.Perm.ofFn_comp_perm τ v).symm
  refine List.ofFn_injective (List.Perm.eq_of_pairwise (le := fun a b => a ≤ b) (fun _ _ _ _ => le_antisymm) ?_ ?_ hp)
  · exact List.pairwise_ofFn.mpr fun i j h => hσ (le_of_lt h)
  · exact List.pairwise_ofFn.mpr fun i j h => hτ (le_of_lt h)

/-- The host's sort along the rows of an array, by an order that is `<`, is in every column the sorted rearrangement of that
    column: any rearrangement that ascends is it. -/
theorem sort_eq {n k : ℕ} (cmp : EReal → EReal → BitVec 1) (hc : ∀ a b, (cmp a b == 1#1) = decide (a < b))
    (G : (⟨2, ![n, k]⟩ : Shape).Idx → EReal) (q : Fin k) (f : Fin n → EReal) (hm : Monotone f)
    (hp : ∃ σ : Equiv.Perm (Fin n), f = (fun g => G (ix2 g q)) ∘ σ) (g : Fin n) :
    Host.sort ⟨2, ![n, k]⟩ 0 cmp G (ix2 g q) = f g := by
  obtain ⟨σ, rfl⟩ := hp
  have al (i : Fin n) : (ix2 g q : (⟨2, ![n, k]⟩ : Shape).Idx).along 0 i = ix2 i q := by
    funext a; fin_cases a <;> rfl
  have hR : (fun i i' : Fin n => cmp (G ((ix2 g q : (⟨2, ![n, k]⟩ : Shape).Idx).along 0 i)) (G ((ix2 g q : (⟨2, ![n, k]⟩ : Shape).Idx).along 0 i')) == 1#1)
      = fun i i' => decide (G (ix2 i q) < G (ix2 i' q)) := by
    funext i i'; rw [hc, al, al]
  let τ : Equiv.Perm (Fin n) := Equiv.ofBijective (sortedFrom fun i i' => decide (G (ix2 i q) < G (ix2 i' q)))
    ⟨sortedFrom_injective _, sortedFrom_surjective _⟩
  have hτ : Monotone ((fun g => G (ix2 g q)) ∘ τ) := by
    intro i j hij
    rcases eq_or_lt_of_le hij with rfl | hlt
    · exact le_refl _
    · have := sortedFrom_noInversion (fun i i' => decide (G (ix2 i q) < G (ix2 i' q))) (fun i i' => decide (G (ix2 i q) < G (ix2 i' q)))
        (fun a b h => decide_eq_false (not_lt.mpr (le_of_lt (of_decide_eq_true h)))) (fun _ _ h => h)
        (fun a b c h1 h2 => decide_eq_false (not_lt.mpr (le_trans (not_lt.mp (of_decide_eq_false h2)) (not_lt.mp (of_decide_eq_false h1))))) i j hlt
      exact not_lt.mp (of_decide_eq_false this)
  have e := congrFun (ascending_unique _ τ σ hτ hm) g
  rw [← e]
  unfold Host.sort
  rw [dif_pos (show 0 < 2 by decide)]
  show G ((ix2 g q : (⟨2, ![n, k]⟩ : Shape).Idx).along 0 (sortedFrom (fun i i' : Fin n => cmp (G ((ix2 g q : (⟨2, ![n, k]⟩ : Shape).Idx).along 0 i)) (G ((ix2 g q : (⟨2, ![n, k]⟩ : Shape).Idx).along 0 i')) == 1#1) g)) = _
  rw [hR]
  exact congrArg G (al _)

end Cert.Stages

end
-- ==== Proof.KernelIdeal.Value.lean ====
module

public import proofs.«01_k».proof.Proof.KernelIdeal.Run
public import proofs.«01_k».proof.Proof.Column
public import proofs.«01_k».proof.Proof.Gen.ReferenceIdeal.Run
public import Idealize.ShloMosaic.Lib.Pipeline.ValueKit
public import Idealize.ShloMosaic.Lib.Layout

/-!
# The kernel's result arrays

At the real numbers the result array of every device is its block of the whole array sorted along the rows.
-/

@[expose] public section

noncomputable section

namespace Cert.KernelIdeal.Proto

open Cert.KernelIdeal Cert.KernelIdeal.Gen Cert.Stages

open Idealize.ShloMosaic
open Idealize.ShloMosaic.TcCoe
open Idealize.ShloMosaic.Pipeline (Dat Cfg Window)

/-! ## The reference's order -/

/-- A value that is zero may be replaced by zero, and none differs from itself. -/
theorem norm_eq (x n : EReal) : Scalar.select (Ideal.cmp .une x x) n (Scalar.select (Ideal.cmp .oeq x 0) 0 x) = x := by
  show Scalar.select (BitVec.ofBool (decide (x ≠ x))) n (Scalar.select (BitVec.ofBool (decide (x = 0))) 0 x) = x
  rw [select_bit, select_bit, decide_eq_false (not_not.mpr rfl), if_neg (by decide)]
  by_cases h : x = 0
  · rw [decide_eq_true h, if_pos rfl, h]
  · rw [decide_eq_false h, if_neg (by decide)]

/-- The reference sorts by `<`: the values it replaces before comparing are replaced by themselves. -/
theorem comparator_eq (a b : EReal) : (Cert.ReferenceIdeal.comparator_f32_d0 (F := Ideal) a b == 1#1) = decide (a < b) := by
  have z : (FloatOps.ofBits .f32 0x00000000#32 : Ideal .f32) = (0 : EReal) := Ideal.ofBits_zero_f32
  have e : Cert.ReferenceIdeal.comparator_f32_d0 (F := Ideal) a b = BitVec.ofBool (decide (a < b)) := by
    unfold Cert.ReferenceIdeal.comparator_f32_d0
    rw [z]
    show Ideal.cmp .olt (Scalar.select (Ideal.cmp .une a a) _ (Scalar.select (Ideal.cmp .oeq a 0) 0 a))
      (Scalar.select (Ideal.cmp .une b b) _ (Scalar.select (Ideal.cmp .oeq b 0) 0 b)) = _
    rw [norm_eq, norm_eq]
    rfl
  rw [e]
  cases decide (a < b) <;> rfl

/-! ## The devices' words -/

theorem word1 (d : Fin 4) : devClear (devWord d) 1#32 = BitVec.ofBool (!d.val.testBit 0) := by revert d; decide +kernel
theorem word2 (d : Fin 4) : devClear (devWord d) 2#32 = BitVec.ofBool (!d.val.testBit 1) := by revert d; decide +kernel

variable (m : (ℓ : Loc nD τ sig) → Buf (Elt Ideal) ℓ) (ρ : Dev nD → PrngReg)

/-- The four devices' results of round `r`, from their blocks. -/
theorem outv_eq (r : ℕ) : (outv m r : Blocks) = all3 devWord p1 (all2 devWord p2 (all1 devWord p1 (all0 devWord (xin m r)))) := rfl

/-! ## The blocks at coordinates -/

theorem index0 : ∀ t : Fin cfg0.N, win0_0.index t = ![0, t.val] := (by decide +kernel : ∀ t : Fin grid0.N, _)
theorem index1 : ∀ t : Fin cfg0.N, win0_1.index t = ![0, t.val] := (by decide +kernel : ∀ t : Fin grid0.N, _)

/-- The column of the array at place `q` of block `t`. -/
def colOf (t : Fin cfg0.N) (q : Fin 128) : Fin 1024 := ⟨t.val * 128 + q.val, by have := t_lt t; have := q.isLt; omega⟩

/-- A round's block of a device holds the argument's columns of that block. -/
theorem xin_apply (c : Dev nD) (t : Fin cfg0.N) (r : Fin 4096) (q : Fin 128) :
    xin m t.val c (ix2 r q) = m ((c : Thread nD τ).loc main_arg0) (ix2 r (colOf t q)) := by
  rw [xin_eq]
  unfold colOf
  blk_ext [iblk, V, index0 t]

/-- Where a device's row lies in the whole array. -/
def posOf (c : Fin 4) (r : Fin 4096) : Fin (2 ^ 14) := ⟨c.val * 2 ^ 12 + r.val, by have := c.isLt; have := r.isLt; omega⟩
theorem devOf_pos (c : Fin 4) (r : Fin 4096) : devOf (posOf c r) = c :=
  Fin.ext (by show (c.val * 2 ^ 12 + r.val) / 2 ^ 12 = c.val; have := r.isLt; omega)
theorem rowOf_pos (c : Fin 4) (r : Fin 4096) : rowOf (posOf c r) = r :=
  Fin.ext (by show (c.val * 2 ^ 12 + r.val) % 2 ^ 12 = r.val; have := r.isLt; omega)

abbrev SG : Shape := ⟨2, ![16384, 1024]⟩
abbrev SL : Shape := ⟨2, ![4096, 1024]⟩

/-- The whole array sorted along its rows. -/
abbrev sorted (G : SG.Idx → EReal) : SG.Idx → EReal := Host.sort SG 0 (Cert.ReferenceIdeal.comparator_f32_d0 (F := Ideal)) G

/-- A device's block of the whole array, at a row and a column. -/
theorem block_at (G : SG.Idx → EReal) (g : Fin (2 ^ 14)) (Q : Fin 1024) :
    Layout.block SL SG 0 4 (devOf g) G (by decide) (ix2 (rowOf g) Q) = G (ix2 g Q) := by
  rw [Layout.block_apply]
  refine congrArg G (funext fun a => Fin.ext ?_)
  fin_cases a
  · show g.val / 2 ^ 12 * 4096 + g.val % 2 ^ 12 = g.val
    omega
  · rfl

/-- A round's result at a row and a column is the sorted array's element there. -/
theorem outv_apply (G : SG.Idx → EReal) (hG : ∀ c : Dev nD, m ((c : Thread nD τ).loc main_arg0) = Layout.block SL SG 0 4 c G)
    (c : Dev nD) (t : Fin cfg0.N) (r : Fin 4096) (q : Fin 128) :
    outv m t.val c (ix2 r q) = Layout.block SL SG 0 4 c (sorted G) (by decide) (ix2 r (colOf t q)) := by
  have hin : col (xin m t.val) q = fun g => G (ix2 g (colOf t q)) := by
    funext g
    show xin m t.val (devOf g) (ix2 (rowOf g) q) = _
    rw [xin_apply, hG, block_at]
  have hall := col_all devWord word1 word2 p1 p2 (fun _ => rfl) (fun _ => rfl) (xin m t.val) q
  rw [hin] at hall
  have e : outv m t.val c (ix2 r q) = col (outv m t.val) q (posOf c r) := by
    unfold col; rw [devOf_pos, rowOf_pos]
  have e' : Layout.block SL SG 0 4 c (sorted G) (by decide) (ix2 r (colOf t q)) = sorted G (ix2 (posOf c r) (colOf t q)) := by
    have h := block_at (sorted G) (posOf c r) (colOf t q)
    rw [devOf_pos, rowOf_pos] at h
    exact h
  rw [e, e', outv_eq, hall]
  exact (sort_eq _ comparator_eq G (colOf t q) _ (SortNet.sortNet_apply_monotone 14 _) (SortNet.Network.exists_perm _ _) (posOf c r)).symm

/-- A device's result array is its block of the whole array sorted. -/
theorem finalA_sorted (G : SG.Idx → EReal) (hG : ∀ c : Dev nD, m ((c : Thread nD τ).loc main_arg0) = Layout.block SL SG 0 4 c G) (c : Dev nD) :
    finalA m ρ c (1 : Fin 2) = Layout.block SL SG 0 4 c (sorted G) := by
  rw [finalA_out]
  refine (dats m ρ 0 c).arrAt_eq_of_covers 1 _ (by decide +kernel) fun t _ y => ?_
  blk_simp
  obtain ⟨r, q, rfl⟩ : ∃ (r : Fin 4096) (q : Fin 128), y = ix2 r q := ⟨y 0, y 1, by funext a; fin_cases a <;> rfl⟩
  refine (outv_apply m G hG c t r q).trans ?_
  unfold colOf
  refine congrArg (Layout.block SL SG 0 4 c (sorted G)) ?_
  blk_ext [index1 t]

end Cert.KernelIdeal.Proto

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Adequacy
public import Idealize.ShloMosaic.Init

@[expose] public section

noncomputable section

namespace Cert.Proof

open Idealize.ShloMosaic Idealize.SL.Sem

/-- The kernel runs to its end, its argument unchanged and every counter at zero. -/
theorem frame_p : Cert.quiescent_Kernel := fun m g _ =>
  (θ_run Cert.Kernel.defs _ _).mono
    (fun _ h => ⟨fun c => (h.1 c 0).trans (Cert.Kernel.Proto.finalA_arg m g c), h.2⟩) (Cert.Kernel.Proto.run_main m g)

/-- The idealized kernel runs to its end, its argument unchanged and every counter at zero. -/
theorem frame_pi : Cert.quiescent_KernelIdeal := fun m g _ =>
  (θ_run Cert.KernelIdeal.defs _ _).mono
    (fun _ h => ⟨fun c => (h.1 c 0).trans (Cert.KernelIdeal.Proto.finalA_arg m g c), h.2⟩) (Cert.KernelIdeal.Proto.run_main m g)

/-- The idealized reference runs to its end, its argument unchanged; it has no counters. -/
theorem frame_ri : Cert.quiescent_ReferenceIdeal := fun m g _ =>
  (θ_run Cert.ReferenceIdeal.defs _ _).mono
    (fun r h => ⟨fun c => (h c).2, sem_eq_zero_of_no_sems (by decide) r.2⟩) (Cert.ReferenceIdeal.Value.run m g)

/-- On every device the idealized kernel leaves its block of what the idealized reference leaves: the whole array with
    every column sorted in ascending order. -/
theorem algebraic : Cert.algebraic_KernelIdeal_ReferenceIdeal := fun m g m' g' _ hm =>
  ⟨Cert.KernelIdeal.Proto.sorted (m' (((0 : Dev Cert.ReferenceIdeal.nD).tc : Thread _ Cert.ReferenceIdeal.τ).loc Cert.ReferenceIdeal.main_arg0)),
    (θ_run Cert.KernelIdeal.defs _ _).mono
      (fun _ h c => ⟨(h.1 c 1).trans (Cert.KernelIdeal.Proto.finalA_sorted m g _ hm c), (h.1 c 0).trans (Cert.KernelIdeal.Proto.finalA_arg m g c)⟩)
      (Cert.KernelIdeal.Proto.run_main m g),
    (θ_run Cert.ReferenceIdeal.defs _ _).mono (fun _ h => h 0) (Cert.ReferenceIdeal.Value.run m' g')⟩

theorem claim : Cert.Claim := ⟨Cert.Kernel.Gen.facts, Cert.KernelIdeal.Gen.facts, Cert.ReferenceIdeal.Gen.facts,
  frame_p, frame_pi, frame_ri, trivial, algebraic⟩

end Cert.Proof

end
